-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelModF (m : (ℓ : Loc Cert.KernelModF.nD Cert.KernelModF.τ Cert.KernelModF.sig) → Buf (Elt Bits) ℓ) : Prop :=
  True

def Pre_KernelModFIdeal (m : (ℓ : Loc Cert.KernelModFIdeal.nD Cert.KernelModFIdeal.τ Cert.KernelModFIdeal.sig) → Buf (Elt Ideal) ℓ) : Prop :=
  True

def Pre_ReferenceModFIdeal (m : (ℓ : Loc Cert.ReferenceModFIdeal.nD Cert.ReferenceModFIdeal.τ Cert.ReferenceModFIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelModF [hKernelModF : Cert.KernelModF.Facts] : Prop :=
  ∀ (m : (ℓ : Loc Cert.KernelModF.nD Cert.KernelModF.τ Cert.KernelModF.sig) → Buf (Elt Bits) ℓ) (g : Dev Cert.KernelModF.nD → PrngReg), Pre_KernelModF m →
    θ_run (Cert.KernelModF.defs (F := Bits)) (onTc (τ := Cert.KernelModF.τ) (Cert.KernelModF.main (F := Bits))) ⟨m, fun _ => 0, g⟩ (fun r => (∀ c : Dev Cert.KernelModF.nD,
      r.2.mem ((c.tc : Thread Cert.KernelModF.nD Cert.KernelModF.τ).loc Cert.KernelModF.main_arg0) = m ((c.tc : Thread Cert.KernelModF.nD Cert.KernelModF.τ).loc Cert.KernelModF.main_arg0)
      ∧ r.2.mem ((c.tc : Thread Cert.KernelModF.nD Cert.KernelModF.τ).loc Cert.KernelModF.main_arg1) = m ((c.tc : Thread Cert.KernelModF.nD Cert.KernelModF.τ).loc Cert.KernelModF.main_arg1)
      ∧ r.2.mem ((c.tc : Thread Cert.KernelModF.nD Cert.KernelModF.τ).loc Cert.KernelModF.main_arg2) = m ((c.tc : Thread Cert.KernelModF.nD Cert.KernelModF.τ).loc Cert.KernelModF.main_arg2))
      ∧ r.2.sem = fun _ => 0)

def quiescent_KernelModFIdeal [hKernelModFIdeal : Cert.KernelModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg), Pre_KernelModFIdeal m →
    θ_run (Cert.KernelModFIdeal.defs (F := Ideal)) (onTc (τ := Cert.KernelModFIdeal.τ) (Cert.KernelModFIdeal.main (F := Ideal))) ⟨m, fun _ => 0, g⟩ (fun r => (∀ c : Dev Cert.KernelModFIdeal.nD,
      r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
      ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1)
      ∧ r.2.mem ((c.tc : Thread Cert.KernelModFIdeal.nD Cert.KernelModFIdeal.τ).loc Cert.KernelModFIdeal.main_arg2) = m ((c.tc : Thread Cert.KernelModFIdeal.nD Cert.KernelModFIdeal.τ).loc Cert.KernelModFIdeal.main_arg2))
      ∧ r.2.sem = fun _ => 0)

def quiescent_ReferenceModFIdeal [hReferenceModFIdeal : Cert.ReferenceModFIdeal.Facts] : Prop :=
  ∀ (m : (ℓ : Loc Cert.ReferenceModFIdeal.nD Cert.ReferenceModFIdeal.τ Cert.ReferenceModFIdeal.sig) → Buf (Elt Ideal) ℓ) (g : Dev Cert.ReferenceModFIdeal.nD → PrngReg), Pre_ReferenceModFIdeal m →
    θ_run (Cert.ReferenceModFIdeal.defs (F := Ideal)) (onTc (τ := Cert.ReferenceModFIdeal.τ) (Cert.ReferenceModFIdeal.main (F := Ideal))) ⟨m, fun _ => 0, g⟩ (fun r => (∀ c : Dev Cert.ReferenceModFIdeal.nD,
      r.2.mem ((c.tc : Thread Cert.ReferenceModFIdeal.nD Cert.ReferenceModFIdeal.τ).loc Cert.ReferenceModFIdeal.main_arg0) = m ((c.tc : Thread Cert.ReferenceModFIdeal.nD Cert.ReferenceModFIdeal.τ).loc Cert.ReferenceModFIdeal.main_arg0)
      ∧ r.2.mem ((c.tc : Thread Cert.ReferenceModFIdeal.nD Cert.ReferenceModFIdeal.τ).loc Cert.ReferenceModFIdeal.main_arg1) = m ((c.tc : Thread Cert.ReferenceModFIdeal.nD Cert.ReferenceModFIdeal.τ).loc Cert.ReferenceModFIdeal.main_arg1)
      ∧ r.2.mem ((c.tc : Thread Cert.ReferenceModFIdeal.nD Cert.ReferenceModFIdeal.τ).loc Cert.ReferenceModFIdeal.main_arg2) = m ((c.tc : Thread Cert.ReferenceModFIdeal.nD Cert.ReferenceModFIdeal.τ).loc Cert.ReferenceModFIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v33) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v0)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v6) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelModF_KernelModFIdeal : Prop :=
  True

def algebraic_KernelModFIdeal_ReferenceModFIdeal [hKernelModFIdeal : Cert.KernelModFIdeal.Facts] [hReferenceModFIdeal : Cert.ReferenceModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg)
    (m' : (ℓ : Loc Cert.ReferenceModFIdeal.nD Cert.ReferenceModFIdeal.τ Cert.ReferenceModFIdeal.sig) → Buf (Elt Ideal) ℓ) (g' : Dev Cert.ReferenceModFIdeal.nD → PrngReg), Pre_KernelModFIdeal m →
    (∀ c : Dev Cert.KernelModFIdeal.nD,
      m' ((c.tc : Thread Cert.ReferenceModFIdeal.nD Cert.ReferenceModFIdeal.τ).loc Cert.ReferenceModFIdeal.main_arg0) = m ((c.tc : Thread Cert.KernelModFIdeal.nD Cert.KernelModFIdeal.τ).loc Cert.KernelModFIdeal.main_arg0)
      ∧ m' ((c.tc : Thread Cert.ReferenceModFIdeal.nD Cert.ReferenceModFIdeal.τ).loc Cert.ReferenceModFIdeal.main_arg1) = m ((c.tc : Thread Cert.KernelModFIdeal.nD Cert.KernelModFIdeal.τ).loc Cert.KernelModFIdeal.main_arg1)
      ∧ m' ((c.tc : Thread Cert.ReferenceModFIdeal.nD Cert.ReferenceModFIdeal.τ).loc Cert.ReferenceModFIdeal.main_arg2) = m ((c.tc : Thread Cert.KernelModFIdeal.nD Cert.KernelModFIdeal.τ).loc Cert.KernelModFIdeal.main_arg2)) →
    ∃ (v0 : (c : Dev Cert.KernelModFIdeal.nD) → Buf (Elt Ideal) ((c.tc : Thread Cert.KernelModFIdeal.nD Cert.KernelModFIdeal.τ).loc Cert.KernelModFIdeal.main_v2)),
      θ_run (Cert.KernelModFIdeal.defs (F := Ideal)) (onTc (τ := Cert.KernelModFIdeal.τ) (Cert.KernelModFIdeal.main (F := Ideal))) ⟨m, fun _ => 0, g⟩ (fun r => ∀ c : Dev Cert.KernelModFIdeal.nD,
          r.2.mem ((c.tc : Thread Cert.KernelModFIdeal.nD Cert.KernelModFIdeal.τ).loc Cert.KernelModFIdeal.main_v2) = v0 c
          ∧ r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
          ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1)
          ∧ r.2.mem ((c.tc : Thread Cert.KernelModFIdeal.nD Cert.KernelModFIdeal.τ).loc Cert.KernelModFIdeal.main_arg2) = m ((c.tc : Thread Cert.KernelModFIdeal.nD Cert.KernelModFIdeal.τ).loc Cert.KernelModFIdeal.main_arg2))
      ∧ θ_run (Cert.ReferenceModFIdeal.defs (F := Ideal)) (onTc (τ := Cert.ReferenceModFIdeal.τ) (Cert.ReferenceModFIdeal.main (F := Ideal))) ⟨m', fun _ => 0, g'⟩ (fun r => ∀ c : Dev Cert.ReferenceModFIdeal.nD,
          r.2.mem ((c.tc : Thread Cert.ReferenceModFIdeal.nD Cert.ReferenceModFIdeal.τ).loc Cert.ReferenceModFIdeal.main_v4) = v0 c
          ∧ r.2.mem ((c.tc : Thread Cert.ReferenceModFIdeal.nD Cert.ReferenceModFIdeal.τ).loc Cert.ReferenceModFIdeal.main_arg0) = m' ((c.tc : Thread Cert.ReferenceModFIdeal.nD Cert.ReferenceModFIdeal.τ).loc Cert.ReferenceModFIdeal.main_arg0)
          ∧ r.2.mem ((c.tc : Thread Cert.ReferenceModFIdeal.nD Cert.ReferenceModFIdeal.τ).loc Cert.ReferenceModFIdeal.main_arg1) = m' ((c.tc : Thread Cert.ReferenceModFIdeal.nD Cert.ReferenceModFIdeal.τ).loc Cert.ReferenceModFIdeal.main_arg1)
          ∧ r.2.mem ((c.tc : Thread Cert.ReferenceModFIdeal.nD Cert.ReferenceModFIdeal.τ).loc Cert.ReferenceModFIdeal.main_arg2) = m' ((c.tc : Thread Cert.ReferenceModFIdeal.nD Cert.ReferenceModFIdeal.τ).loc Cert.ReferenceModFIdeal.main_arg2))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v30)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v30) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v173) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelMod : Cert.KernelMod.Facts) (hKernelModIdeal : Cert.KernelModIdeal.Facts) (hReferenceModIdeal : Cert.ReferenceModIdeal.Facts) (hKernelModF : Cert.KernelModF.Facts) (hKernelModFIdeal : Cert.KernelModFIdeal.Facts) (hReferenceModFIdeal : Cert.ReferenceModFIdeal.Facts) (hKernelMix : Cert.KernelMix.Facts) (hKernelMixIdeal : Cert.KernelMixIdeal.Facts) (hReferenceMixIdeal : Cert.ReferenceMixIdeal.Facts) (hPre_finite_mix : Cert.Pre_finite_mix.Facts),
    quiescent_Kernel (hKernel := hKernel)
    ∧ quiescent_KernelIdeal (hKernelIdeal := hKernelIdeal)
    ∧ quiescent_ReferenceIdeal (hReferenceIdeal := hReferenceIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelModF (hKernelModF := hKernelModF)
    ∧ quiescent_KernelModFIdeal (hKernelModFIdeal := hKernelModFIdeal)
    ∧ quiescent_ReferenceModFIdeal (hReferenceModFIdeal := hReferenceModFIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ preserves_Kernel_KernelIdeal
    ∧ algebraic_KernelIdeal_ReferenceIdeal (hKernelIdeal := hKernelIdeal) (hReferenceIdeal := hReferenceIdeal)
    ∧ preserves_KernelOut_KernelOutIdeal
    ∧ algebraic_KernelOutIdeal_ReferenceOutIdeal (hKernelOutIdeal := hKernelOutIdeal) (hReferenceOutIdeal := hReferenceOutIdeal)
    ∧ preserves_KernelMod_KernelModIdeal
    ∧ algebraic_KernelModIdeal_ReferenceModIdeal (hKernelModIdeal := hKernelModIdeal) (hReferenceModIdeal := hReferenceModIdeal)
    ∧ preserves_KernelModF_KernelModFIdeal
    ∧ algebraic_KernelModFIdeal_ReferenceModFIdeal (hKernelModFIdeal := hKernelModFIdeal) (hReferenceModFIdeal := hReferenceModFIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
-- ==== Pre_finite_mix.lean ====
abbrev S4x4096x5632 : Shape := ⟨3, ![4, 4096, 5632]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S4x4096x1280 : Shape := ⟨3, ![4, 4096, 1280]⟩
abbrev S_ : Shape := ⟨0, ![]⟩

class Facts : Prop where
  slices_S4x4096x5632_S4x4096x1280_0_0_3072 : S4x4096x5632.Slices ![0, 0, 3072] S4x4096x1280
  bitsLt_bf16_f32 : FTy.bits .bf16 < FTy.bits .f32
  bcast_S_S4x4096x1280 : S_.BroadcastsInDim S4x4096x1280 (![] : Fin 0 → Fin S4x4096x1280.rank)
  bcast_S_S1x16 : S_.BroadcastsInDim S1x16 (![] : Fin 0 → Fin S1x16.rank)

variable [Facts]

def fn {F : FTy → Type} [FloatOps F] (main_arg0 : FVec F S4x4096x5632 .bf16) (main_arg1 : FVec F S1x16 .f32) (main_arg2 : FVec F S1x1024 .f32) (main_arg3 : FVec F S1x1024 .f32) (main_arg4 : FVec F S1x8x128x128 .f32) (main_arg5 : FVec F S1x8x128 .f32) : IVec S4x4096x1280 1 × IVec S1x16 1 :=
  let main_v0 : FVec F S4x4096x1280 .bf16 := (extractStridedSlice S4x4096x1280 ![0, 0, 3072] · slices_S4x4096x5632_S4x4096x1280_0_0_3072) main_arg0
  let main_v1 : FVec F S4x4096x1280 .f32 := (extf .f32 · bitsLt_bf16_f32) main_v0
  let main_v2 : FVec F S4x4096x1280 .f32 := Host.absf main_v1
  let main_cst : FVec F S_ .f32 := constant S_ .f32 0x7F800000#32
  let main_v3 : FVec F S4x4096x1280 .f32 := broadcastInDim S4x4096x1280 ![] bcast_S_S4x4096x1280 main_cst
  let main_v4 : IVec S4x4096x1280 1 := cmpf .olt main_v2 main_v3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_arg1 main_v5
  (main_v4, main_v6)
-- ==== Kernel.lean ====
abbrev S4x4096x2048 : Shape := ⟨3, ![4, 4096, 2048]⟩
abbrev S4x6144 : Shape := ⟨2, ![4, 6144]⟩
abbrev S1x2048 : Shape := ⟨2, ![1, 2048]⟩
abbrev S1x2048x5632 : Shape := ⟨3, ![1, 2048, 5632]⟩
abbrev S16384x2048 : Shape := ⟨2, ![16384, 2048]⟩
abbrev S4x1x6144 : Shape := ⟨3, ![4, 1, 6144]⟩
abbrev S2048x5632 : Shape := ⟨2, ![2048, 5632]⟩
abbrev S16384x5632 : Shape := ⟨2, ![16384, 5632]⟩
abbrev S256x2048 : Shape := ⟨2, ![256, 2048]⟩
abbrev S1x1x6144 : Shape := ⟨3, ![1, 1, 6144]⟩
abbrev S256x5632 : Shape := ⟨2, ![256, 5632]⟩
abbrev S256 : Shape := ⟨1, ![256]⟩
abbrev S256x1 : Shape := ⟨2, ![256, 1]⟩
abbrev S1x1x2048 : Shape := ⟨3, ![1, 1, 2048]⟩
abbrev S2048x512 : Shape := ⟨2, ![2048, 512]⟩
abbrev S256x512 : Shape := ⟨2, ![256, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x6144, .f32⟩
  | .hbm, ⟨2, _⟩ => ⟨S1x2048, .f32⟩
  | .hbm, ⟨3, _⟩ => ⟨S1x2048x5632, .f32⟩
  | .hbm, ⟨4, _⟩ => ⟨S16384x2048, .f32⟩
  | .hbm, ⟨5, _⟩ => ⟨S4x1x6144, .f32⟩
  | .hbm, ⟨6, _⟩ => ⟨S2048x5632, .f32⟩
  | .hbm, ⟨7, _⟩ => ⟨S2048x5632, .bf16⟩
  | .hbm, ⟨8, _⟩ => ⟨S16384x5632, .bf16⟩
  | .local _ .vmem, ⟨0, _⟩ => ⟨S256x2048, .f32⟩
  | .local _ .vmem, ⟨1, _⟩ => ⟨S256x2048, .f32⟩
  | .local _ .vmem, ⟨2, _⟩ => ⟨S1x1x6144, .f32⟩
  | .local _ .vmem, ⟨3, _⟩ => ⟨S1x1x6144, .f32⟩
  | .local _ .vmem, ⟨4, _⟩ => ⟨S1x2048, .f32⟩
  | .local _ .vmem, ⟨5, _⟩ => ⟨S2048x5632, .bf16⟩
  | .local _ .vmem, ⟨6, _⟩ => ⟨S256x5632, .bf16⟩
  | .local _ .vmem, ⟨7, _⟩ => ⟨S256x5632, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S4x6144 : Shape := ⟨2, ![4, 6144]⟩
abbrev S1x2048 : Shape := ⟨2, ![1, 2048]⟩
abbrev S1x2048x5632 : Shape := ⟨3, ![1, 2048, 5632]⟩
abbrev S4x2048 : Shape := ⟨2, ![4, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S2048x5632 : Shape := ⟨2, ![2048, 5632]⟩
abbrev S4x4096x5632 : Shape := ⟨3, ![4, 4096, 5632]⟩
abbrev S16384x5632 : Shape := ⟨2, ![16384, 5632]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x6144, .f32⟩
  | .hbm, ⟨2, _⟩ => ⟨S1x2048, .f32⟩
  | .hbm, ⟨3, _⟩ => ⟨S1x2048x5632, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x1x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S2048x5632, .f32⟩
  | .hbm, ⟨34, _⟩ => ⟨S4x4096x5632, .f32⟩
  | .hbm, ⟨35, _⟩ => ⟨S16384x5632, .f32⟩
  | .hbm, ⟨36, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== KernelOut.lean ====
abbrev S4x4096x2048 : Shape := ⟨3, ![4, 4096, 2048]⟩
abbrev S4x6144 : Shape := ⟨2, ![4, 6144]⟩
abbrev S4x4096 : Shape := ⟨2, ![4, 4096]⟩
abbrev S1x2048x2048 : Shape := ⟨3, ![1, 2048, 2048]⟩
abbrev S2048 : Shape := ⟨1, ![2048]⟩
abbrev S16384x2048 : Shape := ⟨2, ![16384, 2048]⟩
abbrev S4x1x6144 : Shape := ⟨3, ![4, 1, 6144]⟩
abbrev S4x1x4096 : Shape := ⟨3, ![4, 1, 4096]⟩
abbrev S2048x2048 : Shape := ⟨2, ![2048, 2048]⟩
abbrev S1x2048 : Shape := ⟨2, ![1, 2048]⟩
abbrev S512x2048 : Shape := ⟨2, ![512, 2048]⟩
abbrev S1x1x6144 : Shape := ⟨3, ![1, 1, 6144]⟩
abbrev S1x1x4096 : Shape := ⟨3, ![1, 1, 4096]⟩
abbrev S1x1x2048 : Shape := ⟨3, ![1, 1, 2048]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S512 : Shape := ⟨1, ![512]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S4x6144, .f32⟩
  | .hbm, ⟨3, _⟩ => ⟨S4x4096, .f32⟩
  | .hbm, ⟨4, _⟩ => ⟨S1x2048x2048, .f32⟩
  | .hbm, ⟨5, _⟩ => ⟨S2048, .f32⟩
  | .hbm, ⟨6, _⟩ => ⟨S16384x2048, .f32⟩
  | .hbm, ⟨7, _⟩ => ⟨S4x1x6144, .f32⟩
  | .hbm, ⟨8, _⟩ => ⟨S4x1x4096, .f32⟩
  | .hbm, ⟨9, _⟩ => ⟨S16384x2048, .bf16⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x6144, .f32⟩
  | .local _ .vmem, ⟨5, _⟩ => ⟨S1x1x6144, .f32⟩
  | .local _ .vmem, ⟨6, _⟩ => ⟨S1x1x4096, .f32⟩
  | .local _ .vmem, ⟨7, _⟩ => ⟨S1x1x4096, .f32⟩
  | .local _ .vmem, ⟨8, _⟩ => ⟨S1x2048, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S4x4096x2048 : Shape := ⟨3, ![4, 4096, 2048]⟩
abbrev S4x6144 : Shape := ⟨2, ![4, 6144]⟩
abbrev S4x4096 : Shape := ⟨2, ![4, 4096]⟩
abbrev S1x2048x2048 : Shape := ⟨3, ![1, 2048, 2048]⟩
abbrev S2048 : Shape := ⟨1, ![2048]⟩
abbrev S4x2048 : Shape := ⟨2, ![4, 2048]⟩
abbrev S4x1x2048 : Shape := ⟨3, ![4, 1, 2048]⟩
abbrev S2048x2048 : Shape := ⟨2, ![2048, 2048]⟩
abbrev S_ : Shape := ⟨0, ![]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S4x6144, .f32⟩
  | .hbm, ⟨3, _⟩ => ⟨S4x4096, .f32⟩
  | .hbm, ⟨4, _⟩ => ⟨S1x2048x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x1x2048, .f32⟩
  | .hbm, ⟨10, _⟩ => ⟨S4x4096x2048, .f32⟩
  | .hbm, ⟨11, _⟩ => ⟨S2048x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x2048, .f32⟩
  | .hbm, ⟨17, _⟩ => ⟨S4x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x1x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x1x2048, .f32⟩
  | .hbm, ⟨41, _⟩ => ⟨S4x4096x2048, .f32⟩
  | .hbm, ⟨42, _⟩ => ⟨S4x4096x2048, .f32⟩
  | .hbm, ⟨43, _⟩ => ⟨S16384x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== KernelMod.lean ====
abbrev S4x2048 : Shape := ⟨2, ![4, 2048]⟩
abbrev S1x2048x6144 : Shape := ⟨3, ![1, 2048, 6144]⟩
abbrev S1x6144 : Shape := ⟨2, ![1, 6144]⟩
abbrev S4x6144 : Shape := ⟨2, ![4, 6144]⟩
abbrev S1x2048x512 : Shape := ⟨3, ![1, 2048, 512]⟩
abbrev S1x512 : Shape := ⟨2, ![1, 512]⟩
abbrev S4x512 : Shape := ⟨2, ![4, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S4x6144, .f32⟩
  | .local _ .vmem, ⟨0, _⟩ => ⟨S4x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512, .f32⟩
  | .local _ .vmem, ⟨4, _⟩ => ⟨S1x512, .f32⟩
  | .local _ .vmem, ⟨5, _⟩ => ⟨S4x512, .f32⟩
  | .local _ .vmem, ⟨6, _⟩ => ⟨S4x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S4x2048 : Shape := ⟨2, ![4, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S4x6144 : Shape := ⟨2, ![4, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2048x6144, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S4x6144, .f32⟩
  | .hbm, ⟨17, _⟩ => ⟨S4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelModF.lean ====
abbrev S4x2048 : Shape := ⟨2, ![4, 2048]⟩
abbrev S2048x4096 : Shape := ⟨2, ![2048, 4096]⟩
abbrev S4096 : Shape := ⟨1, ![4096]⟩
abbrev S1x2048x4096 : Shape := ⟨3, ![1, 2048, 4096]⟩
abbrev S1x4096 : Shape := ⟨2, ![1, 4096]⟩
abbrev S4x4096 : Shape := ⟨2, ![4, 4096]⟩
abbrev S1x2048x512 : Shape := ⟨3, ![1, 2048, 512]⟩
abbrev S1x512 : Shape := ⟨2, ![1, 512]⟩
abbrev S4x512 : Shape := ⟨2, ![4, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x4096, .f32⟩
  | .hbm, ⟨2, _⟩ => ⟨S4096, .f32⟩
  | .hbm, ⟨3, _⟩ => ⟨S1x2048x4096, .f32⟩
  | .hbm, ⟨4, _⟩ => ⟨S1x4096, .f32⟩
  | .hbm, ⟨5, _⟩ => ⟨S4x4096, .f32⟩
  | .local _ .vmem, ⟨0, _⟩ => ⟨S4x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512, .f32⟩
  | .local _ .vmem, ⟨4, _⟩ => ⟨S1x512, .f32⟩
  | .local _ .vmem, ⟨5, _⟩ => ⟨S4x512, .f32⟩
  | .local _ .vmem, ⟨6, _⟩ => ⟨S4x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModFIdeal.lean ====
abbrev S4x2048 : Shape := ⟨2, ![4, 2048]⟩
abbrev S2048x4096 : Shape := ⟨2, ![2048, 4096]⟩
abbrev S4096 : Shape := ⟨1, ![4096]⟩
abbrev S_ : Shape := ⟨0, ![]⟩
abbrev S4x4096 : Shape := ⟨2, ![4, 4096]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x4096, .f32⟩
  | .hbm, ⟨2, _⟩ => ⟨S4096, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x4096, .f32⟩
  | .hbm, ⟨13, _⟩ => ⟨S1x4096, .f32⟩
  | .hbm, ⟨14, _⟩ => ⟨S4x4096, .f32⟩
  | .hbm, ⟨15, _⟩ => ⟨S4x4096, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelMix.lean ====
abbrev S4x4096x5632 : Shape := ⟨3, ![4, 4096, 5632]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S16 : Shape := ⟨1, ![16]⟩
abbrev S8x128x128 : Shape := ⟨3, ![8, 128, 128]⟩
abbrev S8x128 : Shape := ⟨2, ![8, 128]⟩
abbrev S128x8 : Shape := ⟨2, ![128, 8]⟩
abbrev S4x4096x2048 : Shape := ⟨3, ![4, 4096, 2048]⟩
abbrev S1x128x5632 : Shape := ⟨3, ![1, 128, 5632]⟩
abbrev S128x128 : Shape := ⟨2, ![128, 128]⟩
abbrev S1x128x2048 : Shape := ⟨3, ![1, 128, 2048]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S256x128 : Shape := ⟨2, ![256, 128]⟩
abbrev S128x256 : Shape := ⟨2, ![128, 256]⟩
abbrev S1 : Shape := ⟨1, ![1]⟩
abbrev S128x512 : Shape := ⟨2, ![128, 512]⟩
abbrev S512x128 : Shape := ⟨2, ![512, 128]⟩

abbrev nBuf : Space → Nat
  | .hbm => 41
  | .vmem => 14
  | .smem => 1
  | _ => 0

abbrev bufTy : (tb : Table) → Fin (tcTables nBuf tb) → BufTy
  | .hbm, ⟨0, _⟩ => ⟨S4x4096x5632, .bf16⟩
  | .hbm, ⟨1, _⟩ => ⟨S1x16, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S1x4096x1x32, .f32⟩
  | .hbm, ⟨29, _⟩ => ⟨S1x4096x4x32, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S16, .f32⟩
  | .hbm, ⟨37, _⟩ => ⟨S8x128x128, .f32⟩
  | .hbm, ⟨38, _⟩ => ⟨S8x128, .f32⟩
  | .hbm, ⟨39, _⟩ => ⟨S128x8, .f32⟩
  | .hbm, ⟨40, _⟩ => ⟨S4x4096x2048, .bf16⟩
  | .local _ .vmem, ⟨0, _⟩ => ⟨S1x128x5632, .bf16⟩
  | .local _ .vmem, ⟨1, _⟩ => ⟨S1x128x5632, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1x128x2048, .bf16⟩
  | .local _ .vmem, ⟨11, _⟩ => ⟨S1x128x2048, .bf16⟩
  | .local _ .vmem, ⟨12, _⟩ => ⟨S8x128x128, .bf16⟩
  | .local _ .vmem, ⟨13, _⟩ => ⟨S8x128x128, .bf16⟩
  | .local _ .smem, ⟨0, _⟩ => ⟨S16, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMixIdeal.lean ====
abbrev S4x4096x5632 : Shape := ⟨3, ![4, 4096, 5632]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4x4096x1024 : Shape := ⟨3, ![4, 4096, 1024]⟩
abbrev S4x4096x256 : Shape := ⟨3, ![4, 4096, 256]⟩
abbrev S1024 : Shape := ⟨1, ![1024]⟩
abbrev S8x128x128 : Shape := ⟨3, ![8, 128, 128]⟩
abbrev S8x128 : Shape := ⟨2, ![8, 128]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096x16x64 : Shape := ⟨4, ![4, 4096, 16, 64]⟩
abbrev S4x4096x16x32 : Shape := ⟨4, ![4, 4096, 16, 32]⟩
abbrev S1x4096x1x32 : Shape := ⟨4, ![1, 4096, 1, 32]⟩
abbrev S4x4096x4x64 : Shape := ⟨4, ![4, 4096, 4, 64]⟩
abbrev S4x4096x4x32 : Shape := ⟨4, ![4, 4096, 4, 32]⟩
abbrev S16 : Shape := ⟨1, ![16]⟩
abbrev S4x32x128x4x4x64 : Shape := ⟨6, ![4, 32, 128, 4, 4, 64]⟩
abbrev S4x32x128x4x64 : Shape := ⟨5, ![4, 32, 128, 4, 64]⟩
abbrev S4x33x128x4x64 : Shape := ⟨5, ![4, 33, 128, 4, 64]⟩
abbrev S4x32x256x4x64 : Shape := ⟨5, ![4, 32, 256, 4, 64]⟩
abbrev S4x32x4x256x128x4 : Shape := ⟨6, ![4, 32, 4, 256, 128, 4]⟩
abbrev S4x32x4x4x128x256 : Shape := ⟨6, ![4, 32, 4, 4, 128, 256]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S4x32x4x4x128 : Shape := ⟨5, ![4, 32, 4, 4, 128]⟩
abbrev S4x32x4x4x128x1 : Shape := ⟨6, ![4, 32, 4, 4, 128, 1]⟩
abbrev S4x32x4x64x4x128 : Shape := ⟨6, ![4, 32, 4, 64, 4, 128]⟩
abbrev S4x4096x2048 : Shape := ⟨3, ![4, 4096, 2048]⟩

abbrev nBuf : Space → Nat
  | .hbm => 231
  | .vmem => 0
  | .smem => 0
  | _ => 0

abbrev hbmTy0_0 (i : Nat) : BufTy := match i % 128 with
  | 0 => ⟨S4x4096x5632, .bf16⟩
  | 1 => ⟨S1x16, .f32⟩
  | 2 => ⟨S1x1024, .f32⟩
  | 3 => ⟨S1x1024, .f32⟩
  | 4 => ⟨S1x8x128x128, .f32⟩
  | 5 => ⟨S1x8x128, .f32⟩
  | 6 => ⟨S4x4096x5632, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x256, .f32⟩
  | 34 => ⟨S4x4096x256, .f32⟩
  | 35 => ⟨S4x4096x1024, .f32⟩
  | 36 => ⟨S1024, .f32⟩
  | 37 => ⟨S1024, .f32⟩
  | 38 => ⟨S8x128x128, .f32⟩
  | 39 => ⟨S8x128, .f32⟩
  | 40 => ⟨S_, .f32⟩
  | 41 => ⟨S4x4096, .f32⟩
  | 42 => ⟨S4x4096x1, .f32⟩
  | 43 => ⟨S_, .f32⟩
  | 44 => ⟨S4x4096x1, .f32⟩
  | 45 => ⟨S4x4096x1, .f32⟩
  | 46 => ⟨S4x4096x1024, .f32⟩
  | 47 => ⟨S4x4096x1024, .f32⟩
  | 48 => ⟨S4x4096x1024, .f32⟩
  | 49 => ⟨S_, .f32⟩
  | 50 => ⟨S4x4096, .f32⟩
  | 51 => ⟨S4x4096x1, .f32⟩
  | 52 => ⟨S_, .f32⟩
  | 53 => ⟨S4x4096x1, .f32⟩
  | 54 => ⟨S4x4096x1, .f32⟩
  | 55 => ⟨S_, .f32⟩
  | 56 => ⟨S4x4096x1, .f32⟩
  | 57 => ⟨S4x4096x1, .f32⟩
  | 58 => ⟨S4x4096x1, .f32⟩
  | 59 => ⟨S4x4096x1024, .f32⟩
  | 60 => ⟨S4x4096x1024, .f32⟩
  | 61 => ⟨S1x1x1024, .f32⟩
  | 62 => ⟨S4x4096x1024, .f32⟩
  | 63 => ⟨S4x4096x1024, .f32⟩
  | 64 => ⟨S1x1x1024, .f32⟩
  | 65 => ⟨S4x4096x1024, .f32⟩
  | 66 => ⟨S4x4096x1024, .f32⟩
  | 67 => ⟨S4x32x128x8x128, .f32⟩
  | 68 => ⟨S_, .f32⟩
  | 69 => ⟨S128x128, .f32⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S1x128x128, .f32⟩
  | 80 => ⟨S8x128x128, .f32⟩
  | 81 => ⟨S8x128x128, .f32⟩
  | 82 => ⟨S8x4x32x128x128, .f32⟩
  | 83 => ⟨S4x32x128x8x128, .f32⟩
  | 84 => ⟨S128x8, .f32⟩
  | 85 => ⟨S1x1x128x8x1, .f32⟩
  | 86 => ⟨S4x32x128x8x128, .f32⟩
  | 87 => ⟨S4x32x128x8x128, .f32⟩
  | 88 => ⟨S4x4096x1024, .f32⟩
  | 89 => ⟨S4x4096x1024, .f32⟩
  | 90 => ⟨S4x4096x16x64, .f32⟩
  | 91 => ⟨S4x4096x16x32, .f32⟩
  | 92 => ⟨S4x4096x16x32, .f32⟩
  | 93 => ⟨S1x4096x1x32, .f32⟩
  | 94 => ⟨S1x4096x1x32, .f32⟩
  | 95 => ⟨S4x4096x16x32, .f32⟩
  | 96 => ⟨S4x4096x16x32, .f32⟩
  | 97 => ⟨S4x4096x16x32, .f32⟩
  | 98 => ⟨S4x4096x16x32, .f32⟩
  | 99 => ⟨S4x4096x16x32, .f32⟩
  | 100 => ⟨S4x4096x16x32, .f32⟩
  | 101 => ⟨S4x4096x16x32, .f32⟩
  | 102 => ⟨S4x4096x16x32, .f32⟩
  | 103 => ⟨S4x4096x16x32, .f32⟩
  | 104 => ⟨S4x4096x16x32, .f32⟩
  | 105 => ⟨S4x4096x16x64, .f32⟩
  | 106 => ⟨S4x4096x4x64, .f32⟩
  | 107 => ⟨S4x4096x4x32, .f32⟩
  | 108 => ⟨S4x4096x4x32, .f32⟩
  | 109 => ⟨S1x4096x1x32, .f32⟩
  | 110 => ⟨S1x4096x1x32, .f32⟩
  | 111 => ⟨S4x4096x4x32, .f32⟩
  | 112 => ⟨S4x4096x4x32, .f32⟩
  | 113 => ⟨S4x4096x4x32, .f32⟩
  | 114 => ⟨S4x4096x4x32, .f32⟩
  | 115 => ⟨S4x4096x4x32, .f32⟩
  | 116 => ⟨S4x4096x4x32, .f32⟩
  | 117 => ⟨S4x4096x4x32, .f32⟩
  | 118 => ⟨S4x4096x4x32, .f32⟩
  | 119 => ⟨S4x4096x4x32, .f32⟩
  | 120 => ⟨S4x4096x4x32, .f32⟩
  | 121 => ⟨S4x4096x4x64, .f32⟩
  | 122 => ⟨S4x4096x4x64, .f32⟩
  | 123 => ⟨S16, .f32⟩
  | 124 => ⟨S4x32x128x4x4x64, .f32⟩
  | 125 => ⟨S4x32x128x4x64, .f32⟩
  | 126 => ⟨S4x32x128x4x64, .f32⟩
  | 127 => ⟨S_, .i32⟩
  | _ => ⟨S4x4096x5632, .bf16⟩

abbrev hbmTy0_1 (i : Nat) : BufTy := match i % 128 with
  | 0 => ⟨S_, .f32⟩
  | 1 => ⟨S4x33x128x4x64, .f32⟩
  | 2 => ⟨S4x32x128x4x64, .f32⟩
  | 3 => ⟨S4x32x256x4x64, .f32⟩
  | 4 => ⟨S_, .i32⟩
  | 5 => ⟨S_, .f32⟩
  | 6 => ⟨S4x33x128x4x64, .f32⟩
  | 7 => ⟨S4x32x128x4x64, .f32⟩
  | 8 => ⟨S4x32x256x4x64, .f32⟩
  | 9 => ⟨S4x32x4x256x128x4, .f32⟩
  | 10 => ⟨S4x32x4x4x128x256, .f32⟩
  | 11 => ⟨S_, .f32⟩
  | 12 => ⟨S4x32x4x4x128x256, .f32⟩
  | 13 => ⟨S4x32x4x4x128x256, .f32⟩
  | 14 => ⟨S32, .i32⟩
  | 15 => ⟨S32x1, .i32⟩
  | 16 => ⟨S_, .i32⟩
  | 17 => ⟨S32x1, .i32⟩
  | 18 => ⟨S32x1, .i32⟩
  | 19 => ⟨S128, .i32⟩
  | 20 => ⟨S1x128, .i32⟩
  | 21 => ⟨S32x128, .i32⟩
  | 22 => ⟨S32x128, .i32⟩
  | 23 => ⟨S32x128, .i32⟩
  | 24 => ⟨S_, .i32⟩
  | 25 => ⟨S32x1, .i32⟩
  | 26 => ⟨S32x1, .i32⟩
  | 27 => ⟨S_, .i32⟩
  | 28 => ⟨S32x1, .i32⟩
  | 29 => ⟨S32x1, .i32⟩
  | 30 => ⟨S256, .i32⟩
  | 31 => ⟨S1x256, .i32⟩
  | 32 => ⟨S32x256, .i32⟩
  | 33 => ⟨S32x256, .i32⟩
  | 34 => ⟨S32x256, .i32⟩
  | 35 => ⟨S32x128x1, .i32⟩
  | 36 => ⟨S32x1x256, .i32⟩
  | 37 => ⟨S32x128x256, .i32⟩
  | 38 => ⟨S32x128x256, .i32⟩
  | 39 => ⟨S32x128x256, .i32⟩
  | 40 => ⟨S_, .i32⟩
  | 41 => ⟨S32x128x256, .i32⟩
  | 42 => ⟨S32x128x256, .i1⟩
  | 43 => ⟨S_, .i32⟩
  | 44 => ⟨S32x128x256, .i32⟩
  | 45 => ⟨S32x128x256, .i1⟩
  | 46 => ⟨S32x128x256, .i1⟩
  | 47 => ⟨S32x1x256, .i32⟩
  | 48 => ⟨S_, .i32⟩
  | 49 => ⟨S32x1x256, .i32⟩
  | 50 => ⟨S32x1x256, .i1⟩
  | 51 => ⟨S32x128x256, .i1⟩
  | 52 => ⟨S32x128x256, .i1⟩
  | 53 => ⟨S1x32x1x1x128x256, .i1⟩
  | 54 => ⟨S_, .f32⟩
  | 55 => ⟨S_, .f32⟩
  | 56 => ⟨S4x32x4x4x128x256, .i1⟩
  | 57 => ⟨S4x32x4x4x128x256, .f32⟩
  | 58 => ⟨S4x32x4x4x128x256, .f32⟩
  | 59 => ⟨S4x4, .f32⟩
  | 60 => ⟨S1x1x4x4x1x1, .f32⟩
  | 61 => ⟨S_, .f32⟩
  | 62 => ⟨S4x32x4x4x128, .f32⟩
  | 63 => ⟨S4x32x4x4x128x1, .f32⟩
  | 64 => ⟨S4x32x4x4x128x1, .f32⟩
  | 65 => ⟨S4x32x4x4x128x1, .f32⟩
  | 66 => ⟨S4x32x4x4x128x256, .f32⟩
  | 67 => ⟨S4x32x4x4x128x256, .f32⟩
  | 68 => ⟨S4x32x4x4x128x256, .f32⟩
  | 69 => ⟨S_, .f32⟩
  | 70 => ⟨S4x32x4x4x128, .f32⟩
  | 71 => ⟨S4x32x4x4x128x1, .f32⟩
  | 72 => ⟨S4x32x4x4x128x1, .f32⟩
  | 73 => ⟨S4x32x4x4x128x1, .f32⟩
  | 74 => ⟨S4x32x4x4x128x1, .f32⟩
  | 75 => ⟨S4x32x4x4x128x1, .f32⟩
  | 76 => ⟨S4x32x4x4x128x256, .f32⟩
  | 77 => ⟨S4x32x4x4x128x256, .f32⟩
  | 78 => ⟨S4x32x4x64x4x128, .f32⟩
  | 79 => ⟨S4x32x128x4x4x64, .f32⟩
  | 80 => ⟨S4x4096x1024, .f32⟩
  | 81 => ⟨S4x4096x1024, .f32⟩
  | 82 => ⟨S4x4096x1024, .f32⟩
  | 83 => ⟨S_, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S_, .f32⟩
  | 94 => ⟨S4x4096x1024, .f32⟩
  | 95 => ⟨S4x4096x1024, .f32⟩
  | 96 => ⟨S_, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x2048, .f32⟩
  | 102 => ⟨S4x4096x2048, .bf16⟩
  | _ => ⟨S4x4096x5632, .bf16⟩

abbrev hbmTy (i : Nat) : BufTy := match i / 128 with
  | 0 => hbmTy0_0 i
  | 1 => hbmTy0_1 i
  | _ => ⟨S4x4096x5632, .bf16⟩

abbrev bufTy : (tb : Table) → Fin (tcTables nBuf tb) → BufTy
  | .hbm, ⟨i, _⟩ => hbmTy i
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_cst : Ref sig .tc := ⟨.hbm, 76, rfl⟩
abbrev main_call0_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_c : Ref sig .tc := ⟨.hbm, 127, rfl⟩
abbrev main_call1_v0 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_9 : Ref sig .tc := ⟨.hbm, 132, rfl⟩
abbrev main_call2_v0 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_10 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c_11 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_12 : Ref sig .tc := ⟨.hbm, 152, rfl⟩
abbrev main_v122 : Ref sig .tc := ⟨.hbm, 153, rfl⟩
abbrev main_v123 : Ref sig .tc := ⟨.hbm, 154, rfl⟩
abbrev main_c_13 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_c_14 : Ref sig .tc := ⟨.hbm, 168, rfl⟩
abbrev main_v136 : Ref sig .tc := ⟨.hbm, 169, rfl⟩
abbrev main_v137 : Ref sig .tc := ⟨.hbm, 170, rfl⟩
abbrev main_c_15 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_16 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_17 : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_18 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_19 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_call4_v0 : Ref sig .tc := ⟨.hbm, 209, rfl⟩
abbrev main_call4_v1 : Ref sig .tc := ⟨.hbm, 210, rfl⟩
abbrev main_call4_cst : Ref sig .tc := ⟨.hbm, 211, rfl⟩
abbrev main_call4_v2 : Ref sig .tc := ⟨.hbm, 212, rfl⟩
abbrev main_call4_v3 : Ref sig .tc := ⟨.hbm, 213, rfl⟩
abbrev main_call4_cst_0 : Ref sig .tc := ⟨.hbm, 214, rfl⟩
abbrev main_call4_v4 : Ref sig .tc := ⟨.hbm, 215, rfl⟩
abbrev main_call4_v5 : Ref sig .tc := ⟨.hbm, 216, rfl⟩
abbrev main_v168 : Ref sig .tc := ⟨.hbm, 217, rfl⟩
abbrev main_v169 : Ref sig .tc := ⟨.hbm, 218, rfl⟩
abbrev main_call5_v0 : Ref sig .tc := ⟨.hbm, 219, rfl⟩
abbrev main_call5_v1 : Ref sig .tc := ⟨.hbm, 220, rfl⟩
abbrev main_call5_cst : Ref sig .tc := ⟨.hbm, 221, rfl⟩
abbrev main_call5_v2 : Ref sig .tc := ⟨.hbm, 222, rfl⟩
abbrev main_call5_v3 : Ref sig .tc := ⟨.hbm, 223, rfl⟩
abbrev main_call5_cst_0 : Ref sig .tc := ⟨.hbm, 224, rfl⟩
abbrev main_call5_v4 : Ref sig .tc := ⟨.hbm, 225, rfl⟩
abbrev main_call5_v5 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩

abbrev nD : Nat := 1
abbrev τ : Topo := Topo.v7x

variable {F : FTy → Type} [FloatOps F]
-- ==== Proof.InProj.lean ====
/- The input projection: every element of the call's result array is the modulated, normalised row times the weight
   column; the problem's lines read as the same. -/
module

public import proofs.«01_k».proof.Defs
public import proofs.«01_k».proof.Proof.Gen.KernelIdeal.Value
public import proofs.«01_k».proof.Proof.Gen.Kernel.Frame
public import proofs.«01_k».proof.Proof.Gen.ReferenceIdeal.Run
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Closed

open Cert.KernelIdeal Cert.KernelIdeal.Gen Cert.KernelIdeal.Value

variable (m : (ℓ : Loc nD τ sig) → Buf (Elt Ideal) ℓ)

/-- One element of a tile's result: row `j 0` of the tile normalised, scaled, modulated, against column `j 1` of the
    weight. -/
def tile (x : Vec Ideal S256x2048 .f32) (a : Vec Ideal S1x1x6144 .f32) (g : Vec Ideal S1x2048 .f32)
    (w : Vec Ideal S2048x5632 .bf16) : Vec Ideal S256x5632 .bf16 := fun j =>
  ∑ k : Fin 2048, (x (ix2 (j 0) k)
      * Ideal.rsqrt (Ideal.div (∑ l : Fin 2048, x (ix2 (j 0) l) * x (ix2 (j 0) l)) (Ideal.ofBits .f32 0x45000000#32)
          + Ideal.ofBits .f32 0x3727C5AC#32)
      * g (ix2 (0 : Fin 1) k) * (1 + a (ix3 (0 : Fin 1) (0 : Fin 1) ⟨2048 + k.val, by omega⟩))
      + a (ix3 (0 : Fin 1) (0 : Fin 1) ⟨k.val, by omega⟩)) * w (ix2 k (j 1))

/-- The eleven column pieces of a tile are all `tile`, each at its own columns. -/
theorem out_eq (x : Vec Ideal S256x2048 .f32) (a : Vec Ideal S1x1x6144 .f32) (g : Vec Ideal S1x2048 .f32)
    (w : Vec Ideal S2048x5632 .bf16) : out0_4 x a g w = tile x a g w := by
  funext y
  unfold_out out0_4
  refine View.canon_apply_of_pieces (tile x a g w) _ ?_ y (cover0_4 _ _ _ _ _ _ _ _ _ _ _ y)
  intro p hp
  simp only [List.mem_cons, List.not_mem_nil, or_false] at hp
  rcases hp with rfl | rfl | rfl | rfl | rfl | rfl | rfl | rfl | rfl | rfl | rfl <;> intro z
  all_goals
    pointwise [k0_pay1, k0_pay2, k0_pay3, k0_pay4, k0_pay6, k0_pay7, k0_pay8, k0_pay9, k0_pay10, k0_pay11, k0_pay12, k0_pay5, tile]
    blk_point []

/-- Where each window's block lies at grid point `t`: rows in blocks of 256, the modulation row of the batch entry the
    rows are of, the rest whole. -/
theorem idx : ∀ t : Fin cfg0.N, win0_0.index t = ![t.val, 0] ∧ win0_1.index t = ![t.val / 16, 0, 0]
    ∧ win0_2.index t = ![0, 0] ∧ win0_3.index t = ![0, 0] ∧ win0_4.index t = ![t.val, 0] :=
  (by decide +kernel : ∀ t : Fin grid0.N, _)

/-- One element of the projection: the row of the residual stream that result row `j 0` stands for, normalised, scaled
    and modulated, against column `j 1` of the weight. -/
def elem (x : Vec Ideal S4x4096x2048 .f32) (a : Vec Ideal S4x6144 .f32) (g : Vec Ideal S1x2048 .f32)
    (w : Vec Ideal S1x2048x5632 .f32) : Vec Ideal S16384x5632 .bf16 := fun j =>
  have h : (j 0).val < 16384 := (j 0).isLt
  let b : Fin 4 := ⟨(j 0).val / 4096, by omega⟩
  let r : Fin 4096 := ⟨(j 0).val % 4096, by omega⟩
  ∑ k : Fin 2048, (x (ix3 b r k)
      * Ideal.rsqrt (Ideal.div (∑ l : Fin 2048, x (ix3 b r l) * x (ix3 b r l)) (Ideal.ofBits .f32 0x45000000#32)
          + Ideal.ofBits .f32 0x3727C5AC#32)
      * g (ix2 (0 : Fin 1) k) * (1 + a (ix2 b ⟨2048 + k.val, by omega⟩)) + a (ix2 b ⟨k.val, by omega⟩))
    * w (ix3 (0 : Fin 1) k (j 1))

/-- The call's result array after the run is `elem` of the four arguments. -/
theorem final (c : Dev nD) : (dats m 0 c).arrAt 4 cfg0.N =
    elem (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4, out_eq]
  simp only [tile, elem]
  have hb : (((win0_4.blk t).view.emb y) 0).val < 16384 := (((win0_4.blk t).view.emb y) 0).isLt
  have hx : ∀ k, iblk m c 0 t (ix2 (y 0) k) = m (c.tc.loc main_arg0)
      (ix3 ⟨(((win0_4.blk t).view.emb y) 0).val / 4096, by omega⟩ ⟨(((win0_4.blk t).view.emb y) 0).val % 4096, by omega⟩ k) := by
    intro k
    blk_simp [iblk]
    entry_read
    pointwise []
    blk_ext [idx t]
  have ha : ∀ n : Fin 6144, iblk m c 1 t (ix3 0 0 n) = m (c.tc.loc main_arg1)
      (ix2 ⟨(((win0_4.blk t).view.emb y) 0).val / 4096, by omega⟩ n) := by
    intro k
    blk_simp [iblk]
    entry_read
    pointwise []
    blk_ext [idx t]
  have hg : ∀ k, iblk m c 2 t (ix2 0 k) = m (c.tc.loc main_arg2) (ix2 0 k) := by
    intro k
    blk_simp [iblk]
    entry_read
    pointwise []
    blk_ext [idx t]
  have hw : ∀ k, iblk m c 3 t (ix2 k (y 1)) = m (c.tc.loc main_arg3) (ix3 0 k (((win0_4.blk t).view.emb y) 1)) := by
    intro k
    blk_simp [iblk]
    entry_read
    pointwise []
    blk_ext [idx t]
  simp only [hx, ha, hg, hw]

end Cert.KernelIdeal.Closed

namespace Cert.ReferenceIdeal.Closed

open Cert.ReferenceIdeal Cert.ReferenceIdeal.Gen

set_option maxHeartbeats 2000000 in
/-- The problem's composed term is the same function of the arguments. -/
theorem ref_eq (x : FVec Ideal S4x4096x2048 .f32) (a : FVec Ideal S4x6144 .f32) (g : FVec Ideal S1x2048 .f32)
    (w : FVec Ideal S1x2048x5632 .f32) :
    (truncf .bf16 (shapeCast _ (Host.dotGeneral dot_S4x4096x2048_S2048x5632_S4x4096x5632_2_0_01_1_n_n none (addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ g shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] a slices_S4x6144_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] a slices_S4x6144_S4x2048_0_0)))) (shapeCast _ w shapeCasts_S1x2048x5632_S2048x5632)) shapeCasts_S4x4096x5632_S16384x5632) bitsLt_bf16_f32 : FVec Ideal S16384x5632 .bf16)
      = Cert.KernelIdeal.Closed.elem x a g w := by
  funext j
  pointwise [Cert.KernelIdeal.Closed.elem]

end Cert.ReferenceIdeal.Closed

namespace Cert.Proof.InProj

theorem frame_in : Cert.quiescent_Kernel := fun m ρ _ => Cert.Kernel.Gen.frame m ρ
theorem frame_in_ideal : Cert.quiescent_KernelIdeal := fun m ρ _ => Cert.KernelIdeal.Gen.frame m ρ
theorem frame_in_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The input projection call and the problem's lines for it leave the same array. -/
theorem algebraic_in : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [h0, h1, h2, h3, Cert.KernelIdeal.Closed.final m c]
  exact Cert.ReferenceIdeal.Closed.ref_eq _ _ _ _

end Cert.Proof.InProj

end
-- ==== Proof.OutProj.lean ====
/- The output projection. -/
module

public import proofs.«01_k».proof.Defs
public import proofs.«01_k».proof.Proof.Gen.KernelOutIdeal.Value
public import proofs.«01_k».proof.Proof.Gen.KernelOut.Frame
public import proofs.«01_k».proof.Proof.Gen.ReferenceOutIdeal.Run
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelOutIdeal.Closed

open Cert.KernelOutIdeal Cert.KernelOutIdeal.Gen Cert.KernelOutIdeal.Value

variable (m : (ℓ : Loc nD τ sig) → Buf (Elt Ideal) ℓ)

/-- The f32 pattern of `2048.0` is the real 2048. -/
theorem ofBits_2048 : Ideal.ofBits .f32 0x45000000#32 = ((2048 : ℝ) : EReal) := by
  simp [Ideal.ofBits, Ideal.ieee, -EReal.coe_mul]; norm_num

/-- The f32 pattern of `1 / 2048` is that real, exactly. -/
theorem ofBits_inv_2048 : Ideal.ofBits .f32 0x3A000000#32 = ((1 / 2048 : ℝ) : EReal) := by
  simp [Ideal.ofBits, Ideal.ieee, -EReal.coe_mul]; norm_num

/-- Dividing by 2048 is multiplying by its reciprocal. -/
theorem div_2048 (s : EReal) :
    Ideal.div s (Ideal.ofBits .f32 0x45000000#32) = s * Ideal.ofBits .f32 0x3A000000#32 := by
  rw [ofBits_2048, ofBits_inv_2048, Ideal.div_coe (by norm_num)]

/-- A sum over 2048 columns is the sum over its four runs of 512. -/
theorem sum_runs (f : Fin 2048 → EReal) :
    ∑ l : Fin 2048, f l = (∑ l : Fin 512, f ⟨l.val, by omega⟩) + (∑ l : Fin 512, f ⟨512 + l.val, by omega⟩)
      + (∑ l : Fin 512, f ⟨1024 + l.val, by omega⟩) + ∑ l : Fin 512, f ⟨1536 + l.val, by omega⟩ := by
  rw [Fin.sum_univ_two_halves 1536 512 rfl f, Fin.sum_univ_two_halves 1024 512 rfl fun l : Fin 1536 => f ⟨l.val, by omega⟩,
    Fin.sum_univ_two_halves 512 512 rfl fun l : Fin 1024 => f ⟨l.val, by omega⟩]

/-- One element of a tile's residual row after the layer: the entry plus the gate times the mixed row against the
    weight column. -/
def resid (y : Vec Ideal S512x2048 .bf16) (x : Vec Ideal S512x2048 .f32) (a : Vec Ideal S1x1x6144 .f32)
    (w : Vec Ideal S2048x2048 .bf16) : Vec Ideal S512x2048 .f32 := fun j =>
  x (ix2 (j 0) (j 1)) + a (ix3 (0 : Fin 1) (0 : Fin 1) ⟨4096 + (j 1).val, by have h : (j 1).val < 2048 := (j 1).isLt; omega⟩)
    * ∑ k : Fin 2048, y (ix2 (j 0) k) * w (ix2 k (j 1))

/-- One element of a tile's result: the residual row normalised, scaled and modulated. -/
def tile (y : Vec Ideal S512x2048 .bf16) (x : Vec Ideal S512x2048 .f32) (a : Vec Ideal S1x1x6144 .f32)
    (f : Vec Ideal S1x1x4096 .f32) (g : Vec Ideal S1x2048 .f32) (w : Vec Ideal S2048x2048 .bf16) :
    Vec Ideal S512x2048 .f32 := fun j =>
  have h : (j 1).val < 2048 := (j 1).isLt
  resid y x a w (ix2 (j 0) (j 1))
      * Ideal.rsqrt ((∑ l : Fin 2048, resid y x a w (ix2 (j 0) l) * resid y x a w (ix2 (j 0) l))
          * Ideal.ofBits .f32 0x3A000000#32 + Ideal.ofBits .f32 0x3727C5AC#32)
      * g (ix2 (0 : Fin 1) (j 1)) * (1 + f (ix3 (0 : Fin 1) (0 : Fin 1) ⟨2048 + (j 1).val, by omega⟩))
    + f (ix3 (0 : Fin 1) (0 : Fin 1) ⟨(j 1).val, by omega⟩)

/-- Four runs of 512 columns make up a tile's 2048. -/
theorem cover_runs (p0 p1 p2 p3 : Vec Ideal S512x512 .f32) (y : S512x2048.Idx) :
    ∃ p ∈ ([⟨Rect.unit ![0, 1536] ![512, 512] inb_S512x2048_S512x512_0_1536, p3⟩,
    ⟨Rect.unit ![0, 1024] ![512, 512] inb_S512x2048_S512x512_0_1024, p2⟩,
    ⟨Rect.unit ![0, 512] ![512, 512] inb_S512x2048_S512x512_0_512, p1⟩,
    ⟨Rect.unit ![0, 0] ![512, 512] inb_S512x2048_S512x512_0_0, p0⟩] : List (View.Piece (Elt Ideal) S512x2048 .f32)), y ∈ p.1.set :=
  View.cover_of_tiled ([⟨Rect.unit ![0, 1536] ![512, 512] inb_S512x2048_S512x512_0_1536, p3⟩,
    ⟨Rect.unit ![0, 1024] ![512, 512] inb_S512x2048_S512x512_0_1024, p2⟩,
    ⟨Rect.unit ![0, 512] ![512, 512] inb_S512x2048_S512x512_0_512, p1⟩,
    ⟨Rect.unit ![0, 0] ![512, 512] inb_S512x2048_S512x512_0_0, p0⟩] : List (View.Piece (Elt Ideal) S512x2048 .f32)) S512x512.size (by rfl) y

/-- Where each window's block lies at grid point `t`: rows in blocks of 512, the modulation rows of the batch entry the
    rows are of, the rest whole. -/
theorem idx : ∀ t : Fin cfg0.N, win0_0.index t = ![t.val, 0] ∧ win0_1.index t = ![t.val, 0]
    ∧ win0_2.index t = ![t.val / 8, 0, 0] ∧ win0_3.index t = ![t.val / 8, 0, 0]
    ∧ win0_4.index t = ![0, 0] ∧ win0_5.index t = ![0, 0] ∧ win0_6.index t = ![t.val, 0] :=
  (by decide +kernel : ∀ t : Fin grid0.N, _)

/-- What grid point `t` leaves in the output block is `tile` of the point's input blocks. -/
theorem after_eq (c : Dev nD) (t : Fin cfg0.N) : (dats m 0 c).after 6 t =
    tile (iblk m c 0 t) (iblk m c 1 t) (iblk m c 2 t) (iblk m c 3 t) (iblk m c 4 t) (iblk m c 5 t) := by
  rw [after0_6]
  funext j
  unfold outsAt0
  frame_out
  generalize iblk m c 0 t = y
  generalize iblk m c 1 t = x
  generalize iblk m c 2 t = a
  generalize iblk m c 3 t = f
  generalize iblk m c 4 t = g
  generalize iblk m c 5 t = w
  rw [View.readCov_eq_canon']
  have hc : ∀ L : List (View.Piece (Elt Ideal) S512x2048 .f32), (∀ p ∈ L, ∀ z, p.2 z = resid y x a w (p.1.emb z)) →
      (∀ y, ∃ p ∈ L, y ∈ p.1.set) → View.canon L = resid y x a w :=
    fun L hL hs => funext fun i => View.canon_apply_of_pieces (resid y x a w) L hL i (hs i)
  rw [hc _ ?_ fun y => cover_runs _ _ _ _ y]
  · change k0_pay1 _ _ _ (View.ld (resid y x a w) (Rect.unit ![0, 0] ![512, 2048] inb_S512x2048_S512x2048_0_0)) _ _ = _
    unfold tile
    rw [sum_runs fun l => resid y x a w (ix2 (j 0) l) * resid y x a w (ix2 (j 0) l)]
    pointwise [k0_pay1, k0_pay2, k0_pay3, k0_pay4, k0_pay5, k0_pay6, k0_pay7, k0_pay8, k0_pay9, k0_pay10, resid]
  · intro p hp
    simp only [List.mem_cons, List.not_mem_nil, or_false] at hp
    rcases hp with rfl | rfl | rfl | rfl <;> intro z
    all_goals
      pointwise [k0_pay2, k0_pay3, k0_pay4, k0_pay5, k0_pay7, k0_pay8, resid]
      blk_point []

/-- One element of the residual stream after the layer: the entry plus the gate times the mixed row against the weight
    column. -/
def stream (y : Vec Ideal S4x4096x2048 .bf16) (x : Vec Ideal S4x4096x2048 .f32) (a : Vec Ideal S4x6144 .f32)
    (w : Vec Ideal S1x2048x2048 .f32) (b : Fin 4) (r : Fin 4096) (n : Fin 2048) : EReal :=
  x (ix3 b r n) + a (ix2 b ⟨4096 + n.val, by omega⟩) * ∑ k : Fin 2048, y (ix3 b r k) * w (ix3 (0 : Fin 1) k n)

/-- One element of the result: the stream's row that result row `j 0` stands for, normalised, scaled and modulated. -/
def elem (y : Vec Ideal S4x4096x2048 .bf16) (x : Vec Ideal S4x4096x2048 .f32) (a : Vec Ideal S4x6144 .f32)
    (f : Vec Ideal S4x4096 .f32) (w : Vec Ideal S1x2048x2048 .f32) (g : Vec Ideal S2048 .f32) :
    Vec Ideal S16384x2048 .f32 := fun j =>
  have h : (j 0).val < 16384 := (j 0).isLt
  let b : Fin 4 := ⟨(j 0).val / 4096, by omega⟩
  let r : Fin 4096 := ⟨(j 0).val % 4096, by omega⟩
  let n : Fin 2048 := j 1
  stream y x a w b r n
      * Ideal.rsqrt (Ideal.div (∑ l : Fin 2048, stream y x a w b r l * stream y x a w b r l) (Ideal.ofBits .f32 0x45000000#32)
          + Ideal.ofBits .f32 0x3727C5AC#32)
      * g (ix1 n) * (1 + f (ix2 b ⟨2048 + n.val, by omega⟩)) + f (ix2 b ⟨n.val, by omega⟩)

set_option maxHeartbeats 2000000 in
/-- A tile's element, from the blocks of grid point `t`, is the arrays' element in the row the tile's row stands for. -/
theorem tile_eq (c : Dev nD) (t : Fin cfg0.N) (r : Fin 512) (n : Fin 2048) (ht : t.val < 32) :
    tile (iblk m c 0 t) (iblk m c 1 t) (iblk m c 2 t) (iblk m c 3 t) (iblk m c 4 t) (iblk m c 5 t) (ix2 r n) =
      elem (m (c.tc.loc main_arg0)) (m (c.tc.loc main_arg1)) (m (c.tc.loc main_arg2)) (m (c.tc.loc main_arg3))
        (m (c.tc.loc main_arg4)) (m (c.tc.loc main_arg5)) (ix2 ⟨t.val * 512 + r.val, by omega⟩ n) := by
  have hy : ∀ k : Fin 2048, iblk m c 0 t (ix2 r k) = m (c.tc.loc main_arg0)
      (ix3 ⟨(t.val * 512 + r.val) / 4096, by omega⟩ ⟨(t.val * 512 + r.val) % 4096, by omega⟩ k) := by
    intros
    blk_simp [iblk]
    entry_read
    pointwise []
    blk_ext [idx t]
  have hx : ∀ k : Fin 2048, iblk m c 1 t (ix2 r k) = m (c.tc.loc main_arg1)
      (ix3 ⟨(t.val * 512 + r.val) / 4096, by omega⟩ ⟨(t.val * 512 + r.val) % 4096, by omega⟩ k) := by
    intros
    blk_simp [iblk]
    entry_read
    pointwise []
    blk_ext [idx t]
  have ha : ∀ k : Fin 6144, iblk m c 2 t (ix3 0 0 k) = m (c.tc.loc main_arg2)
      (ix2 ⟨(t.val * 512 + r.val) / 4096, by omega⟩ k) := by
    intros
    blk_simp [iblk]
    entry_read
    pointwise []
    blk_ext [idx t]
  have hm : ∀ k : Fin 4096, iblk m c 3 t (ix3 0 0 k) = m (c.tc.loc main_arg3)
      (ix2 ⟨(t.val * 512 + r.val) / 4096, by omega⟩ k) := by
    intros
    blk_simp [iblk]
    entry_read
    pointwise []
    blk_ext [idx t]
  have hg : ∀ k : Fin 2048, iblk m c 4 t (ix2 0 k) = m (c.tc.loc main_arg5) (ix1 k) := by
    intros
    blk_simp [iblk]
    entry_read
    pointwise []
    blk_ext [idx t]
  have hw : ∀ k l : Fin 2048, iblk m c 5 t (ix2 k l) = m (c.tc.loc main_arg4) (ix3 0 k l) := by
    intros
    blk_simp [iblk]
    entry_read
    pointwise []
    blk_ext [idx t]
  have hs : ∀ l : Fin 2048, resid (iblk m c 0 t) (iblk m c 1 t) (iblk m c 2 t) (iblk m c 5 t) (ix2 r l) =
      stream (m (c.tc.loc main_arg0)) (m (c.tc.loc main_arg1)) (m (c.tc.loc main_arg2)) (m (c.tc.loc main_arg4))
        ⟨(t.val * 512 + r.val) / 4096, by omega⟩ ⟨(t.val * 512 + r.val) % 4096, by omega⟩ l := by
    intro l
    simp only [resid, stream, ix2_0, ix2_1, hx, ha, hy, hw]
  simp only [tile, elem, ix2_0, ix2_1, div_2048, hs, hg, hm]

/-- The call's result array after the run is `elem` of the six arguments. -/
theorem final (c : Dev nD) : (dats m 0 c).arrAt 6 cfg0.N =
    elem (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 6 _ (by decide +kernel) fun t hf j => ?_
  blk_simp
  rw [after_eq]
  have ht : t.val < 32 := t.isLt
  have hr : (j 0).val < 512 := (j 0).isLt
  have hj : (win0_6.blk t).view.emb j = ix2 ⟨t.val * 512 + (j 0).val, by omega⟩ (j 1) := by
    blk_ext [idx t]
  exact (congrArg (tile _ _ _ _ _ _) (eq_ix2 j)).trans
    ((tile_eq m c t (j 0) (j 1) ht).trans (congrArg (elem _ _ _ _ _ _) hj.symm))

end Cert.KernelOutIdeal.Closed

namespace Cert.ReferenceOutIdeal.Closed

open Cert.ReferenceOutIdeal Cert.ReferenceOutIdeal.Gen

set_option maxHeartbeats 2000000 in
/-- The problem's composed term is the same function of the arguments. -/
theorem ref_eq (y : FVec Ideal S4x4096x2048 .bf16) (x : FVec Ideal S4x4096x2048 .f32) (a : FVec Ideal S4x6144 .f32)
    (f : FVec Ideal S4x4096 .f32) (w : FVec Ideal S1x2048x2048 .f32) (g : FVec Ideal S2048 .f32) :
    (shapeCast _ (addf (mulf (mulf (mulf (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] a slices_S4x6144_S4x2048_0_4096))) (Host.dotGeneral dot_S4x4096x2048_S2048x2048_S4x4096x2048_2_0_01_1_n_n none (extf .f32 y bitsLt_bf16_f32) (shapeCast _ w shapeCasts_S1x2048x2048_S2048x2048)))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] a slices_S4x6144_S4x2048_0_4096))) (Host.dotGeneral dot_S4x4096x2048_S2048x2048_S4x4096x2048_2_0_01_1_n_n none (extf .f32 y bitsLt_bf16_f32) (shapeCast _ w shapeCasts_S1x2048x2048_S2048x2048)))) (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] a slices_S4x6144_S4x2048_0_4096))) (Host.dotGeneral dot_S4x4096x2048_S2048x2048_S4x4096x2048_2_0_01_1_n_n none (extf .f32 y bitsLt_bf16_f32) (shapeCast _ w shapeCasts_S1x2048x2048_S2048x2048))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] f slices_S4x4096_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] f slices_S4x4096_S4x2048_0_0)))) shapeCasts_S4x4096x2048_S16384x2048 : FVec Ideal S16384x2048 .f32)
      = Cert.KernelOutIdeal.Closed.elem y x a f w g := by
  funext j
  pointwise [Cert.KernelOutIdeal.Closed.elem, Cert.KernelOutIdeal.Closed.stream]

end Cert.ReferenceOutIdeal.Closed

namespace Cert.Proof.OutProj

theorem frame_out : Cert.quiescent_KernelOut := fun m ρ _ => Cert.KernelOut.Gen.frame m ρ
theorem frame_out_ideal : Cert.quiescent_KernelOutIdeal := fun m ρ _ => Cert.KernelOutIdeal.Gen.frame m ρ
theorem frame_out_ref : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The output projection call and the problem's lines for it leave the same array. -/
theorem algebraic_out : Cert.algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨(h c).1.trans ?_, (h c).2⟩)
    (Cert.ReferenceOutIdeal.Value.run (F := Ideal) m' ρ')
  obtain ⟨h0, h1, h2, h3, h4, h5⟩ := hagree c
  rw [h0, h1, h2, h3, h4, h5, Cert.KernelOutIdeal.Closed.final m c]
  exact Cert.ReferenceOutIdeal.Closed.ref_eq _ _ _ _ _ _

end Cert.Proof.OutProj

end
-- ==== Proof.Modulation.lean ====
/- The two modulation calls: each result array, read at an index, is the silu of the conditioning row times the weight
   column, plus the bias; the reference's composed term reads as the same. -/
module

public import proofs.«01_k».proof.Defs
public import proofs.«01_k».proof.Proof.Gen.KernelModIdeal.Value
public import proofs.«01_k».proof.Proof.Gen.KernelModFIdeal.Value
public import proofs.«01_k».proof.Proof.Gen.KernelMod.Frame
public import proofs.«01_k».proof.Proof.Gen.KernelModF.Frame
public import proofs.«01_k».proof.Proof.Gen.ReferenceModIdeal.Run
public import proofs.«01_k».proof.Proof.Gen.ReferenceModFIdeal.Run
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelModIdeal.Closed

open Cert.KernelModIdeal Cert.KernelModIdeal.Gen Cert.KernelModIdeal.Value

variable (m : (ℓ : Loc nD τ sig) → Buf (Elt Ideal) ℓ)

/-- One element of the layer's modulation: the silu of row `j 0` of the condition against column `j 1` of the weight, plus
    the bias. -/
def elem (c : Vec Ideal S4x2048 .f32) (w : Vec Ideal S1x2048x6144 .f32) (b : Vec Ideal S1x6144 .f32) :
    Vec Ideal S4x6144 .f32 := fun j =>
  (∑ k : Fin 2048, c (ix2 (j 0) k) * Ideal.div 1 (1 + Ideal.exp (-c (ix2 (j 0) k))) * w (ix3 (0 : Fin 1) k (j 1)))
    + b (ix2 (0 : Fin 1) (j 1))

/-- Where each window's block lies at grid point `t`: the condition whole, the others at column block `t`. -/
theorem idx : ∀ t : Fin cfg0.N, win0_0.index t = ![0, 0] ∧ win0_1.index t = ![0, 0, t.val] ∧ win0_2.index t = ![0, t.val]
    ∧ win0_3.index t = ![0, t.val] :=
  (by decide +kernel : ∀ t : Fin grid0.N, _)

/-- The call's result array after the run is `elem` of the three arguments. -/
theorem final (c : Dev nD) : (dats m 0 c).arrAt 3 cfg0.N =
    elem (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  pointwise [k0_pay1, elem]
  simp only [zero_sub]
  blk_point [iblk, V, idx t]

end Cert.KernelModIdeal.Closed

namespace Cert.ReferenceModIdeal.Closed

open Cert.ReferenceModIdeal Cert.ReferenceModIdeal.Gen

/-- The problem's composed term is the same function of the arguments. -/
theorem ref_eq (c : FVec Ideal S4x2048 .f32) (w : FVec Ideal S1x2048x6144 .f32) (b : FVec Ideal S1x6144 .f32) :
    (addf (Host.dotGeneral dot_S4x2048_S2048x6144_S4x6144_1_0_0_1_n_n none (mulf c (Host.divf (broadcastInDim S4x2048 ![] bcast_S_S4x2048 (constant S_ .f32 0x3F800000#32)) (addf (broadcastInDim S4x2048 ![] bcast_S_S4x2048 (constant S_ .f32 0x3F800000#32)) (Host.exp (Host.negf c))))) (shapeCast _ w shapeCasts_S1x2048x6144_S2048x6144)) (broadcastInDim S4x6144 ![0, 1] bcast_S1x6144_S4x6144_0_1 (broadcastInDim S1x6144 ![1] bcast_S6144_S1x6144_1 (shapeCast _ b shapeCasts_S1x6144_S6144))) : FVec Ideal S4x6144 .f32)
      = Cert.KernelModIdeal.Closed.elem c w b := by
  funext j
  pointwise [Cert.KernelModIdeal.Closed.elem]

end Cert.ReferenceModIdeal.Closed

namespace Cert.KernelModFIdeal.Closed

open Cert.KernelModFIdeal Cert.KernelModFIdeal.Gen Cert.KernelModFIdeal.Value

variable (m : (ℓ : Loc nD τ sig) → Buf (Elt Ideal) ℓ)

/-- One element of the final norm's modulation: the silu of row `j 0` of the condition against column `j 1` of the
    weight, plus the bias. -/
def elem (c : Vec Ideal S4x2048 .f32) (w : Vec Ideal S2048x4096 .f32) (b : Vec Ideal S4096 .f32) :
    Vec Ideal S4x4096 .f32 := fun j =>
  (∑ k : Fin 2048, c (ix2 (j 0) k) * Ideal.div 1 (1 + Ideal.exp (-c (ix2 (j 0) k))) * w (ix2 k (j 1))) + b (ix1 (j 1))

/-- Where each window's block lies at grid point `t`: the condition whole, the others at column block `t`. -/
theorem idx : ∀ t : Fin cfg0.N, win0_0.index t = ![0, 0] ∧ win0_1.index t = ![0, 0, t.val] ∧ win0_2.index t = ![0, t.val]
    ∧ win0_3.index t = ![0, t.val] :=
  (by decide +kernel : ∀ t : Fin grid0.N, _)

/-- The call's result array after the run is `elem` of the three arguments. -/
theorem final (c : Dev nD) : (dats m 0 c).arrAt 3 cfg0.N =
    elem (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  pointwise [k0_pay1, elem]
  simp only [zero_sub]
  blk_point [iblk, V, idx t]

end Cert.KernelModFIdeal.Closed

namespace Cert.ReferenceModFIdeal.Closed

open Cert.ReferenceModFIdeal Cert.ReferenceModFIdeal.Gen

/-- The problem's composed term is the same function of the arguments. -/
theorem ref_eq (c : FVec Ideal S4x2048 .f32) (w : FVec Ideal S2048x4096 .f32) (b : FVec Ideal S4096 .f32) :
    (addf (Host.dotGeneral dot_S4x2048_S2048x4096_S4x4096_1_0_0_1_n_n none (mulf c (Host.divf (broadcastInDim S4x2048 ![] bcast_S_S4x2048 (constant S_ .f32 0x3F800000#32)) (addf (broadcastInDim S4x2048 ![] bcast_S_S4x2048 (constant S_ .f32 0x3F800000#32)) (Host.exp (Host.negf c))))) w) (broadcastInDim S4x4096 ![0, 1] bcast_S1x4096_S4x4096_0_1 (broadcastInDim S1x4096 ![1] bcast_S4096_S1x4096_1 b)) : FVec Ideal S4x4096 .f32)
      = Cert.KernelModFIdeal.Closed.elem c w b := by
  funext j
  pointwise [Cert.KernelModFIdeal.Closed.elem]

end Cert.ReferenceModFIdeal.Closed

namespace Cert.Proof.Modulation

theorem frame_mod : Cert.quiescent_KernelMod := fun m ρ _ => Cert.KernelMod.Gen.frame m ρ
theorem frame_mod_ideal : Cert.quiescent_KernelModIdeal := fun m ρ _ => Cert.KernelModIdeal.Gen.frame m ρ
theorem frame_mod_ref : Cert.quiescent_ReferenceModIdeal := fun m ρ _ =>
  (θ_run Cert.ReferenceModIdeal.defs _ _).mono (fun r h => ⟨fun c => (h c).2, sem_eq_zero_of_no_sems (by decide) r.2⟩)
    (Cert.ReferenceModIdeal.Value.run (F := Ideal) m ρ)
theorem frame_mod_f : Cert.quiescent_KernelModF := fun m ρ _ => Cert.KernelModF.Gen.frame m ρ
theorem frame_mod_f_ideal : Cert.quiescent_KernelModFIdeal := fun m ρ _ => Cert.KernelModFIdeal.Gen.frame m ρ
theorem frame_mod_f_ref : Cert.quiescent_ReferenceModFIdeal := fun m ρ _ =>
  (θ_run Cert.ReferenceModFIdeal.defs _ _).mono (fun r h => ⟨fun c => (h c).2, sem_eq_zero_of_no_sems (by decide) r.2⟩)
    (Cert.ReferenceModFIdeal.Value.run (F := Ideal) m ρ)

/-- The layer's modulation call and the problem's lines for it leave the same array. -/
theorem algebraic_mod : Cert.algebraic_KernelModIdeal_ReferenceModIdeal := by
  intro m ρ m' ρ' _ hagree
  refine ⟨_, Cert.KernelModIdeal.Value.run_blocks (F := Ideal) m ρ, ?_⟩
  refine (θ_run Cert.ReferenceModIdeal.defs _ _).mono (fun _ h c => ⟨(h c).1.trans ?_, (h c).2⟩)
    (Cert.ReferenceModIdeal.Value.run (F := Ideal) m' ρ')
  obtain ⟨h0, h1, h2⟩ := hagree c
  rw [h0, h1, h2, Cert.KernelModIdeal.Closed.final m c]
  exact Cert.ReferenceModIdeal.Closed.ref_eq _ _ _

/-- The final norm's modulation call and the problem's lines for it leave the same array. -/
theorem algebraic_mod_f : Cert.algebraic_KernelModFIdeal_ReferenceModFIdeal := by
  intro m ρ m' ρ' _ hagree
  refine ⟨_, Cert.KernelModFIdeal.Value.run_blocks (F := Ideal) m ρ, ?_⟩
  refine (θ_run Cert.ReferenceModFIdeal.defs _ _).mono (fun _ h c => ⟨(h c).1.trans ?_, (h c).2⟩)
    (Cert.ReferenceModFIdeal.Value.run (F := Ideal) m' ρ')
  obtain ⟨h0, h1, h2⟩ := hagree c
  rw [h0, h1, h2, Cert.KernelModFIdeal.Closed.final m c]
  exact Cert.ReferenceModFIdeal.Closed.ref_eq _ _ _

end Cert.Proof.Modulation

end
-- ==== Proof.Mixers.Spec.lean ====
/- One head's row of the sliding-window mixer, and one group's row of the gating mixer, as functions. -/
module

public import Idealize.ShloMosaic.Lib.Pipeline.ValueKit
public import Idealize.ShloMosaic.Lib.Pointwise
public import Idealize.ShloMosaic.Lib.WordCmp

@[expose] public section

noncomputable section

open Idealize.ShloMosaic

namespace Cert.Mix

/-- A row's score at key `x` of the two blocks: the own block's key where it is not ahead of the row, otherwise the
    previous block's, if there is one. -/
def score (q : Fin 64 → EReal) (kc kp : Fin 128 → Fin 64 → EReal) (has : Prop) [Decidable has] (r x : Fin 128) : EReal :=
  if x.val ≤ r.val then ∑ d : Fin 64, q d * kc x d else if has then ∑ d : Fin 64, q d * kp x d else ⊥

/-- The largest of a row's scores and its sink. -/
def top (c : Fin 128 → EReal) (s : EReal) : EReal := max (Finset.fold max ⊥ c Finset.univ) s

/-- The softmax's denominator, the sink's share in it. -/
def den (c : Fin 128 → EReal) (s : EReal) : EReal := (∑ x : Fin 128, Ideal.exp (c x - top c s)) + Ideal.exp (s - top c s)

/-- A key's weight. -/
def weight (c : Fin 128 → EReal) (s : EReal) (x : Fin 128) : EReal := Ideal.exp (c x - top c s) * Ideal.div 1 (den c s)

/-- A head's row at one place: the weights against the values, the own block's where the key is not ahead of the row. -/
def head (c : Fin 128 → EReal) (s : EReal) (vc vp : Fin 128 → EReal) (r : Fin 128) : EReal :=
  ∑ x : Fin 128, weight c s x * (if x.val ≤ r.val then vc x else vp x)

/-- The gate. -/
def silu (z : EReal) : EReal := z * Ideal.div 1 (1 + Ideal.exp (0 - z))

/-- A bit's select, by the bit's being one. -/
theorem select_eq {α : Type} (c : BitVec 1) (a b : α) : Scalar.select c a b = if c = 1#1 then a else b := by
  rcases (by decide +revert : c = 0#1 ∨ c = 1#1) with h | h <;> subst h <;> rfl

theorem select_le {α : Type} (x r : Fin 128) (a b : α) :
    Scalar.select (IntOp.cmpi .sle (BitVec.ofNat 32 x.val) (BitVec.ofNat 32 r.val)) a b = if x.val ≤ r.val then a else b := by
  rw [select_eq]
  exact if_congr (by rw [WordCmp.cmpi_sle_ofNat_eq_one_iff] <;> omega) rfl rfl

end Cert.Mix

end
-- ==== Proof.Mixers.Pair.lean ====
/- The head pair's block of the sliding-window mixer, in closed form. -/
module

public import proofs.«01_k».proof.Proof.Gen.KernelMixIdeal.Frame
public import Idealize.ShloMosaic.Lib.Pipeline.ValueKit
public import Idealize.ShloMosaic.Lib.Pointwise
public import proofs.«01_k».proof.Proof.Mixers.Spec

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen

/-- The 128 columns of the projection's block from column `o` on. -/
def cols (P : Vec Ideal S1x128x5632 .bf16) (o : Nat)
    (h : ∀ a, (![0, 0, o] : Fin 3 → Nat) a + S1x128x128.size a ≤ S1x128x5632.size a) : Vec Ideal S1x128x128 .bf16 :=
  View.ld P (Rect.unit ![0, 0, o] ![1, 128, 128] h)

/-- Entry `e` of a carried buffer. -/
def entry (k : Vec Ideal S8x128x128 .bf16) (e : Nat)
    (h : ∀ a, (![e, 0, 0] : Fin 3 → Nat) a + S1x128x128.size a ≤ S8x128x128.size a) : Vec Ideal S1x128x128 .bf16 :=
  View.ld k (Rect.unit ![e, 0, 0] ![1, 128, 128] h)

/-- The lanes of a head pair's first head. -/
def low : IVec S128x128 1 := k0_pay29 (iota .tc S128x128 32 [1] iota_S128x128_d1_w32)

/-- The lanes of the first half of a head. -/
def first : IVec S128x128 1 := k0_pay28 (iota .tc S128x128 32 [1] iota_S128x128_d1_w32)

/-- A column of keys, rotated. -/
def keyCol (cs sn : Vec Ideal S128x128 .f32) (x : Vec Ideal S1x128x128 .bf16) : FVec Ideal S128x128 .f32 :=
  k0_pay44 (k0_pay26 cs) (k0_pay27 sn) first x

/-- A column of queries, rotated and scaled. -/
def qryCol (cs sn : Vec Ideal S128x128 .f32) (x : Vec Ideal S1x128x128 .bf16) : FVec Ideal S128x128 .bf16 :=
  k0_pay58 (k0_pay26 cs) (k0_pay27 sn) first x

/-- Four products of weights and values, summed. -/
def mixRow (p0 p1 p2 p3 w0 w1 w2 w3 : FVec Ideal S128x128 .bf16) : FVec Ideal S128x128 .f32 :=
  matmul dot_S128x512_S512x128_S128x128_1_0_0_1_n_n none
    (concatenate S128x512 1 [⟨S128x128, p0⟩, ⟨S128x128, p1⟩, ⟨S128x128, p2⟩, ⟨S128x128, p3⟩]
      concatenates_S128x128_S128x128_S128x128_S128x128_S128x512_d1)
    (concatenate S512x128 0 [⟨S128x128, w0⟩, ⟨S128x128, w1⟩, ⟨S128x128, w2⟩, ⟨S128x128, w3⟩]
      concatenates_S128x128_S128x128_S128x128_S128x128_S512x128_d0)
    (constant S128x128 .f32 0x00000000#32)

/-- The gate of a block of 128 columns. -/
def gateOf (z : Vec Ideal S1x128x128 .bf16) : FVec Ideal S128x128 .f32 :=
  mulf (extf .f32 (shapeCast S128x128 z shapeCasts_S1x128x128_S128x128) bitsLt_bf16_f32)
    (divf (broadcast S128x128 (Scalar.ofBits .f32 0x3F800000#32)) (addf (broadcast S128x128 (Scalar.ofBits .f32 0x3F800000#32))
      (exp (subf (broadcast S128x128 (Scalar.ofBits .f32 0x00000000#32))
        (extf .f32 (shapeCast S128x128 z shapeCasts_S1x128x128_S128x128) bitsLt_bf16_f32)))))

/-- A head pair's rows over its four operands' columns, gated. -/
def pair (k0 k1 v0 v1 q : FVec Ideal S128x128 .bf16) (has : BitVec 1) (kp0 kp1 vp0 vp1 : Vec Ideal S1x128x128 .bf16)
    (s0 s1 : Elt Ideal .f32) (z : Vec Ideal S1x128x128 .bf16) : FVec Ideal S1x128x128 .bf16 :=
  k0_pay67 (mulf (mixRow (k0_pay60 k0_pay4 k0 has q kp0 s0) (k0_pay61 k0_pay4 k0 has q kp0 s0)
    (k0_pay60 k0_pay4 k1 has q kp1 s1) (k0_pay61 k0_pay4 k1 has q kp1 s1) (k0_pay62 vp0) v0 (k0_pay62 vp1) v1) (gateOf z))

/-- Head pair `2 * g + i` of the key head `g = 2 * c + j`, by the way `j` of laying a head in its two entries. -/
def pairOf (a b : IVec S128x128 1 → FVec Ideal S128x128 .f32 → FVec Ideal S128x128 .bf16)
    (P : Vec Ideal S1x128x5632 .bf16) (cs sn : Vec Ideal S128x128 .f32)
    (sk : Vec Ideal S16 .f32) (has : BitVec 1) (k v : Vec Ideal S8x128x128 .bf16) (p g c : Nat)
    (hq : ∀ a, (![0, 0, 3072 + 128 * p] : Fin 3 → Nat) a + S1x128x128.size a ≤ S1x128x5632.size a)
    (hz : ∀ a, (![0, 0, 4608 + 128 * p] : Fin 3 → Nat) a + S1x128x128.size a ≤ S1x128x5632.size a)
    (hk : ∀ a, (![0, 0, 4096 + 128 * c] : Fin 3 → Nat) a + S1x128x128.size a ≤ S1x128x5632.size a)
    (hv : ∀ a, (![0, 0, 4352 + 128 * c] : Fin 3 → Nat) a + S1x128x128.size a ≤ S1x128x5632.size a)
    (he : ∀ a, (![2 * g, 0, 0] : Fin 3 → Nat) a + S1x128x128.size a ≤ S8x128x128.size a)
    (he' : ∀ a, (![2 * g + 1, 0, 0] : Fin 3 → Nat) a + S1x128x128.size a ≤ S8x128x128.size a)
    (hs : ∀ a, (![2 * p] : Fin 1 → Nat) a + S1.size a ≤ S16.size a)
    (hs' : ∀ a, (![2 * p + 1] : Fin 1 → Nat) a + S1.size a ≤ S16.size a) : FVec Ideal S1x128x128 .bf16 :=
  pair (a low (keyCol cs sn (cols P (4096 + 128 * c) hk))) (b low (keyCol cs sn (cols P (4096 + 128 * c) hk)))
    (a low (k0_pay31 (cols P (4352 + 128 * c) hv))) (b low (k0_pay31 (cols P (4352 + 128 * c) hv)))
    (qryCol cs sn (cols P (3072 + 128 * p) hq)) has (entry k (2 * g) he) (entry k (2 * g + 1) he') (entry v (2 * g) he)
    (entry v (2 * g + 1) he') (View.ld sk (Rect.unit ![2 * p] ![1] hs) (Shape.Idx.first Nat.zero_lt_one))
    (View.ld sk (Rect.unit ![2 * p + 1] ![1] hs') (Shape.Idx.first Nat.zero_lt_one)) (cols P (4608 + 128 * p) hz)

theorem ofBits_bot : Ideal.ofBits .f32 0xFF800000#32 = (⊥ : EReal) := by
  simp [Ideal.ofBits, Ideal.ieee]

/-- The softmax weights of one head of a pair. -/
theorem weight_at (k : FVec Ideal S128x128 .bf16) (has : BitVec 1) (q : FVec Ideal S128x128 .bf16) (kp : Vec Ideal S1x128x128 .bf16)
    (s : Elt Ideal .f32) (r x : Fin 128) : k0_pay59 (F := Ideal) k0_pay4 k has q kp s (ix2 r x) =
      weight (fun y => if y.val ≤ r.val then ∑ l : Fin 128, q (ix2 r l) * k (ix2 y l)
        else if has = 1#1 then ∑ l : Fin 128, q (ix2 r l) * kp (ix3 0 y l) else ⊥) s x := by
  pointwise [k0_pay59, k0_pay4]
  simp only [select_le, select_eq has, ofBits_bot]
  rfl

theorem sum_runs (f : Fin 512 → EReal) :
    ∑ l : Fin 512, f l = (∑ l : Fin 128, f ⟨l.val, by omega⟩) + (∑ l : Fin 128, f ⟨128 + l.val, by omega⟩)
      + (∑ l : Fin 128, f ⟨256 + l.val, by omega⟩) + ∑ l : Fin 128, f ⟨384 + l.val, by omega⟩ := by
  rw [Fin.sum_univ_two_halves 384 128 rfl f, Fin.sum_univ_two_halves 256 128 rfl fun l : Fin 384 => f ⟨l.val, by omega⟩,
    Fin.sum_univ_two_halves 128 128 rfl fun l : Fin 256 => f ⟨l.val, by omega⟩]

theorem mixRow_at (p0 p1 p2 p3 w0 w1 w2 w3 : FVec Ideal S128x128 .bf16) (r l : Fin 128) :
    mixRow p0 p1 p2 p3 w0 w1 w2 w3 (ix2 r l) = (∑ x : Fin 128, p0 (ix2 r x) * w0 (ix2 x l))
      + (∑ x : Fin 128, p1 (ix2 r x) * w1 (ix2 x l)) + (∑ x : Fin 128, p2 (ix2 r x) * w2 (ix2 x l))
      + ∑ x : Fin 128, p3 (ix2 r x) * w3 (ix2 x l) := by
  pointwise [mixRow]
  rw [sum_runs]
  refine congrArg₂ (· + ·) (congrArg₂ (· + ·) (congrArg₂ (· + ·) ?_ ?_) ?_) ?_
  · refine Finset.sum_congr rfl fun x _ => ?_
    simp only [x.isLt, dif_pos]
  · refine Finset.sum_congr rfl fun x _ => ?_
    simp only [show ¬ 128 + x.val < 128 by omega, show 128 + x.val - 128 < 128 by omega, dif_pos, dif_neg, not_false_eq_true]
    refine congrArg₂ (· * ·) (congrArg p1 ?_) (congrArg w1 ?_) <;> blk_ext []
  · refine Finset.sum_congr rfl fun x _ => ?_
    simp only [show ¬ 256 + x.val < 128 by omega, show ¬ 256 + x.val - 128 < 128 by omega,
      show 256 + x.val - 128 - 128 < 128 by omega, dif_pos, dif_neg, not_false_eq_true]
    refine congrArg₂ (· * ·) (congrArg p2 ?_) (congrArg w2 ?_) <;> blk_ext []
  · refine Finset.sum_congr rfl fun x _ => ?_
    simp only [show ¬ 384 + x.val < 128 by omega, show ¬ 384 + x.val - 128 < 128 by omega,
      show ¬ 384 + x.val - 128 - 128 < 128 by omega, dif_neg, not_false_eq_true]
    refine congrArg₂ (· * ·) (congrArg p3 ?_) (congrArg w3 ?_) <;> blk_ext []

theorem gateOf_at (z : Vec Ideal S1x128x128 .bf16) (r l : Fin 128) : gateOf z (ix2 r l) = silu (z (ix3 0 r l)) := by
  pointwise [gateOf, silu]

theorem low0 (x : FVec Ideal S128x128 .f32) (r l : Fin 128) :
    k0_pay34 (F := Ideal) low x (ix2 r l) = if l.val < 64 then x (ix2 r ⟨64 * 0 + l.val % 64, by omega⟩) else 0 := by
  pointwise [k0_pay34, low, k0_pay29]
  rw [select_eq]
  refine (if_congr (WordCmp.cmpi_slt_ofNat_eq_one_iff (by omega) (by omega)) rfl rfl).trans ?_
  refine ite_congr rfl (fun h => ?_) (fun _ => rfl)
  blk_ext []

theorem low1 (x : FVec Ideal S128x128 .f32) (r l : Fin 128) :
    k0_pay39 (F := Ideal) low x (ix2 r l) = if l.val < 64 then x (ix2 r ⟨64 * 1 + l.val % 64, by omega⟩) else 0 := by
  pointwise [k0_pay39, low, k0_pay29, k0_pay32]
  rw [select_eq]
  refine (if_congr (WordCmp.cmpi_slt_ofNat_eq_one_iff (by omega) (by omega)) rfl rfl).trans ?_
  refine ite_congr rfl (fun h => ?_) (fun _ => rfl)
  blk_ext []

theorem select_not {α : Type} (c : BitVec 1) (a b : α) : Scalar.select (IntOp.xori c 1#1) a b = Scalar.select c b a := by
  rcases (by decide +revert : c = 0#1 ∨ c = 1#1) with h | h <;> subst h <;> rfl

theorem high0 (x : FVec Ideal S128x128 .f32) (r l : Fin 128) :
    k0_pay37 (F := Ideal) low x (ix2 r l) = if l.val < 64 then 0 else x (ix2 r ⟨64 * 0 + l.val % 64, by omega⟩) := by
  pointwise [k0_pay37, k0_pay36, k0_pay32, low, k0_pay29]
  rw [select_not, select_eq]
  refine (if_congr (WordCmp.cmpi_slt_ofNat_eq_one_iff (by omega) (by omega)) rfl rfl).trans ?_
  refine ite_congr rfl (fun _ => rfl) (fun h => ?_)
  blk_ext []

theorem high1 (x : FVec Ideal S128x128 .f32) (r l : Fin 128) :
    k0_pay42 (F := Ideal) low x (ix2 r l) = if l.val < 64 then 0 else x (ix2 r ⟨64 * 1 + l.val % 64, by omega⟩) := by
  pointwise [k0_pay42, k0_pay41, low, k0_pay29]
  rw [select_not, select_eq]
  refine (if_congr (WordCmp.cmpi_slt_ofNat_eq_one_iff (by omega) (by omega)) rfl rfl).trans ?_
  refine ite_congr rfl (fun _ => rfl) (fun h => ?_)
  blk_ext []

theorem first_at : ∀ l : Fin 128, IntOp.cmpi .slt (IntOp.andi (BitVec.ofNat 32 l.val) 63#32) 32#32 = 1#1 ↔ l.val % 64 < 32 := by
  decide

theorem keyCol_at (cs sn : Vec Ideal S128x128 .f32) (x : Vec Ideal S1x128x128 .bf16) (r l : Fin 128) :
    keyCol cs sn x (ix2 r l) = x (ix3 0 r l) * cs (ix2 r l)
      + x (ix3 0 r ⟨64 * (l.val / 64) + (l.val % 64 + 32) % 64, by omega⟩) * sn (ix2 r l) := by
  pointwise [keyCol, k0_pay44, k0_pay26, k0_pay27, first, k0_pay28]
  rw [select_eq]
  refine congrArg₂ (· + ·) rfl (congrArg₂ (· * ·) ?_ rfl)
  refine (if_congr (first_at l) rfl rfl).trans ?_
  split <;> exact congrArg x (by blk_ext [])

theorem qryCol_at (cs sn : Vec Ideal S128x128 .f32) (x : Vec Ideal S1x128x128 .bf16) (r l : Fin 128) :
    qryCol cs sn x (ix2 r l) = keyCol cs sn x (ix2 r l) * Ideal.ofBits .f32 0x3E000000#32 := by
  pointwise [qryCol, k0_pay58, keyCol, k0_pay44, k0_pay26, k0_pay27, first, k0_pay28]

/-- A row against a head laid in the first 64 lanes. -/
theorem sum_low (q : Fin 128 → EReal) (f : Fin 64 → EReal) :
    ∑ l : Fin 128, q l * (if l.val < 64 then f ⟨l.val % 64, by omega⟩ else 0) = ∑ d : Fin 64, q ⟨64 * 0 + d.val, by omega⟩ * f d := by
  rw [Fin.sum_univ_two_halves 64 64 rfl]
  rw [Finset.sum_eq_zero (s := Finset.univ) (f := fun l : Fin 64 => q ⟨64 + l.val, _⟩ * _) fun l _ => ?_, add_zero]
  · refine Finset.sum_congr rfl fun d _ => ?_
    rw [if_pos d.isLt]
    exact congrArg₂ (· * ·) (congrArg q (Fin.ext (by simp))) (congrArg f (Fin.ext (Nat.mod_eq_of_lt d.isLt)))
  · rw [if_neg (by simp), mul_zero]

/-- A row against a head laid in the last 64 lanes. -/
theorem sum_high (q : Fin 128 → EReal) (f : Fin 64 → EReal) :
    ∑ l : Fin 128, q l * (if l.val < 64 then 0 else f ⟨l.val % 64, by omega⟩) = ∑ d : Fin 64, q ⟨64 * 1 + d.val, by omega⟩ * f d := by
  rw [Fin.sum_univ_two_halves 64 64 rfl]
  rw [Finset.sum_eq_zero (s := Finset.univ) (f := fun l : Fin 64 => q ⟨l.val, _⟩ * _) fun l _ => ?_, zero_add]
  · refine Finset.sum_congr rfl fun d _ => ?_
    rw [if_neg (by simp)]
    exact congrArg₂ (· * ·) (congrArg q (Fin.ext (by simp))) (congrArg f (Fin.ext (by simp [Nat.mod_eq_of_lt d.isLt])))
  · rw [if_pos l.isLt, mul_zero]

/-- The two sums of a head, over the previous and the own block, as one. -/
theorem two_sums (w vc vp : Fin 128 → EReal) (r : Fin 128) :
    (∑ x : Fin 128, (if x.val ≤ r.val then 0 else w x) * vp x) + (∑ x : Fin 128, (if x.val ≤ r.val then w x else 0) * vc x) =
      ∑ x : Fin 128, w x * (if x.val ≤ r.val then vc x else vp x) := by
  rw [← Finset.sum_add_distrib]
  refine Finset.sum_congr rfl fun x _ => ?_
  split
  · rw [zero_mul, zero_add]
  · rw [zero_mul, add_zero]

theorem prev_at (k : FVec Ideal S128x128 .bf16) (has : BitVec 1) (q : FVec Ideal S128x128 .bf16) (kp : Vec Ideal S1x128x128 .bf16)
    (s : Elt Ideal .f32) (r x : Fin 128) : k0_pay60 (F := Ideal) k0_pay4 k has q kp s (ix2 r x) =
      if x.val ≤ r.val then 0 else k0_pay59 (F := Ideal) k0_pay4 k has q kp s (ix2 r x) := by
  rw [← select_le]
  generalize hw : k0_pay59 (F := Ideal) k0_pay4 k has q kp s = w
  unfold k0_pay60
  rw [hw]
  pointwise [k0_pay4]

theorem own_at (k : FVec Ideal S128x128 .bf16) (has : BitVec 1) (q : FVec Ideal S128x128 .bf16) (kp : Vec Ideal S1x128x128 .bf16)
    (s : Elt Ideal .f32) (r x : Fin 128) : k0_pay61 (F := Ideal) k0_pay4 k has q kp s (ix2 r x) =
      if x.val ≤ r.val then k0_pay59 (F := Ideal) k0_pay4 k has q kp s (ix2 r x) else 0 := by
  rw [← select_le]
  generalize hw : k0_pay59 (F := Ideal) k0_pay4 k has q kp s = w
  unfold k0_pay61
  rw [hw]
  pointwise [k0_pay4]

theorem flat_at (v : Vec Ideal S1x128x128 .bf16) (x l : Fin 128) : k0_pay62 (F := Ideal) v (ix2 x l) = v (ix3 0 x l) := by
  pointwise [k0_pay62]

/-- One element of a head pair's block: the head the lane is in. -/
theorem pair_at (k0 k1 v0 v1 q : FVec Ideal S128x128 .bf16) (has : BitVec 1) (kp0 kp1 vp0 vp1 : Vec Ideal S1x128x128 .bf16)
    (s0 s1 : Elt Ideal .f32) (z : Vec Ideal S1x128x128 .bf16) (kc vc kh vh : Fin 128 → Fin 64 → EReal)
    (hk0 : ∀ x l : Fin 128, k0 (ix2 x l) = if l.val < 64 then kc x ⟨l.val % 64, by omega⟩ else 0)
    (hk1 : ∀ x l : Fin 128, k1 (ix2 x l) = if l.val < 64 then 0 else kc x ⟨l.val % 64, by omega⟩)
    (hv0 : ∀ x l : Fin 128, v0 (ix2 x l) = if l.val < 64 then vc x ⟨l.val % 64, by omega⟩ else 0)
    (hv1 : ∀ x l : Fin 128, v1 (ix2 x l) = if l.val < 64 then 0 else vc x ⟨l.val % 64, by omega⟩)
    (hkp0 : ∀ x l : Fin 128, kp0 (ix3 0 x l) = if l.val < 64 then kh x ⟨l.val % 64, by omega⟩ else 0)
    (hkp1 : ∀ x l : Fin 128, kp1 (ix3 0 x l) = if l.val < 64 then 0 else kh x ⟨l.val % 64, by omega⟩)
    (hvp0 : ∀ x l : Fin 128, vp0 (ix3 0 x l) = if l.val < 64 then vh x ⟨l.val % 64, by omega⟩ else 0)
    (hvp1 : ∀ x l : Fin 128, vp1 (ix3 0 x l) = if l.val < 64 then 0 else vh x ⟨l.val % 64, by omega⟩)
    (r l : Fin 128) :
    pair k0 k1 v0 v1 q has kp0 kp1 vp0 vp1 s0 s1 z (ix3 0 r l) =
      head (score (fun d => q (ix2 r ⟨64 * (l.val / 64) + d.val, by omega⟩)) kc kh (has = 1#1) r)
        (if l.val < 64 then s0 else s1) (fun x => vc x ⟨l.val % 64, by omega⟩) (fun x => vh x ⟨l.val % 64, by omega⟩) r
        * silu (z (ix3 0 r l)) := by
  have e : ∀ g : FVec Ideal S128x128 .f32, k0_pay67 (F := Ideal) g (ix3 0 r l) = g (ix2 r l) := by
    intro g; pointwise [k0_pay67]
  have w0 : ∀ x : Fin 128, k0_pay59 (F := Ideal) k0_pay4 k0 has q kp0 s0 (ix2 r x) =
      weight (score (fun d => q (ix2 r ⟨64 * 0 + d.val, by omega⟩)) kc kh (has = 1#1) r) s0 x := by
    intro x
    rw [weight_at]
    simp only [hk0, hkp0]
    refine congrArg (fun c => weight c s0 x) (funext fun y => ?_)
    unfold score
    rw [← sum_low (fun l => q (ix2 r l)) (kc y), ← sum_low (fun l => q (ix2 r l)) (kh y)]
  have w1 : ∀ x : Fin 128, k0_pay59 (F := Ideal) k0_pay4 k1 has q kp1 s1 (ix2 r x) =
      weight (score (fun d => q (ix2 r ⟨64 * 1 + d.val, by omega⟩)) kc kh (has = 1#1) r) s1 x := by
    intro x
    rw [weight_at]
    simp only [hk1, hkp1]
    refine congrArg (fun c => weight c s1 x) (funext fun y => ?_)
    unfold score
    rw [← sum_high (fun l => q (ix2 r l)) (kc y), ← sum_high (fun l => q (ix2 r l)) (kh y)]
  unfold pair
  rw [e]
  change mixRow _ _ _ _ _ _ _ _ (ix2 r l) * gateOf z (ix2 r l) = _
  rw [gateOf_at, mixRow_at]
  simp only [prev_at, own_at, flat_at, w0, w1, hv0, hv1, hvp0, hvp1]
  refine congrArg (· * _) ?_
  by_cases hl : l.val < 64
  · simp only [hl, if_true, mul_zero, Finset.sum_const_zero, add_zero]
    rw [two_sums]
    have h0 : l.val / 64 = 0 := by omega
    simp only [h0]
    rfl
  · simp only [hl, if_false, mul_zero, Finset.sum_const_zero, zero_add]
    rw [two_sums]
    have h0 : l.val / 64 = 1 := by omega
    simp only [h0]
    rfl

end Cert.KernelMixIdeal.Closed

end
-- ==== Proof.Mixers.Tile.lean ====
/- One grid point's output block of the two mixers, in closed form. -/
module

public import proofs.«01_k».proof.Proof.Mixers.Pair

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen

/-- Place `d` of the rotated query of head `h` in row `r`, scaled. -/
def qT (P : Vec Ideal S1x128x5632 .bf16) (cs sn : Vec Ideal S128x128 .f32) (r : Fin 128) (h : Fin 16) (d : Fin 64) : EReal :=
  (P (ix3 0 r ⟨3072 + 64 * h.val + d.val, by omega⟩) * cs (ix2 r ⟨64 * (h.val % 2) + d.val, by omega⟩)
    + P (ix3 0 r ⟨3072 + 64 * h.val + (d.val + 32) % 64, by omega⟩) * sn (ix2 r ⟨64 * (h.val % 2) + d.val, by omega⟩))
    * Ideal.ofBits .f32 0x3E000000#32

/-- Place `d` of the rotated key of key head `g` in row `r`. -/
def kT (P : Vec Ideal S1x128x5632 .bf16) (cs sn : Vec Ideal S128x128 .f32) (g : Fin 4) (r : Fin 128) (d : Fin 64) : EReal :=
  P (ix3 0 r ⟨4096 + 64 * g.val + d.val, by omega⟩) * cs (ix2 r ⟨64 * (g.val % 2) + d.val, by omega⟩)
    + P (ix3 0 r ⟨4096 + 64 * g.val + (d.val + 32) % 64, by omega⟩) * sn (ix2 r ⟨64 * (g.val % 2) + d.val, by omega⟩)

/-- Place `d` of the value of key head `g` in row `r`. -/
def vT (P : Vec Ideal S1x128x5632 .bf16) (g : Fin 4) (r : Fin 128) (d : Fin 64) : EReal :=
  P (ix3 0 r ⟨4352 + 64 * g.val + d.val, by omega⟩)

/-- The layout of a carried buffer: entry `2 * g + o` holds key head `g` in the lanes of half `o`, zero in the others. -/
def lay (f : Fin 4 → Fin 128 → Fin 64 → EReal) (e : Fin 8) (x l : Fin 128) : EReal :=
  if l.val / 64 = e.val % 2 then f ⟨e.val / 2, by omega⟩ x ⟨l.val % 64, by omega⟩ else 0

/-- The layer norm's row `r` at column `n`. -/
def normT (P : Vec Ideal S1x128x5632 .bf16) (lg lb : Vec Ideal S1x1024 .f32) (r : Fin 128) (n : Fin 1024) : EReal :=
  let v : Fin 1024 → EReal := fun k => P (ix3 0 r ⟨1024 + k.val, by omega⟩)
  let c : Fin 1024 → EReal := fun k => v k - Ideal.div (∑ i, v i) (Ideal.ofBits .f32 0x44800000#32)
  c n * Ideal.rsqrt (Ideal.div (∑ k, c k * c k) (Ideal.ofBits .f32 0x44800000#32) + Ideal.ofBits .f32 0x3727C5AC#32)
    * lg (ix2 0 n) + lb (ix2 0 n)

/-- The gating mixer's element in row `r`, column `n`. -/
def gateT (P : Vec Ideal S1x128x5632 .bf16) (lg lb : Vec Ideal S1x1024 .f32) (ws : Vec Ideal S8x128x128 .f32)
    (bs : Vec Ideal S128x8 .f32) (r : Fin 128) (n : Fin 1024) : EReal :=
  P (ix3 0 r ⟨n.val, by omega⟩)
    * ((∑ x : Fin 128, (ws (ix3 ⟨n.val / 128, by omega⟩ r x) * (if x.val ≤ r.val then 1 else 0)) * normT P lg lb x n)
      + bs (ix2 r ⟨n.val / 128, by omega⟩))
    * silu (P (ix3 0 r ⟨2048 + n.val, by omega⟩))

/-- The attention mixer's element in row `r`, column `n`. -/
def attnT (P : Vec Ideal S1x128x5632 .bf16) (cs sn : Vec Ideal S128x128 .f32) (sk : Vec Ideal S16 .f32)
    (has : Prop) [Decidable has] (kh vh : Fin 4 → Fin 128 → Fin 64 → EReal) (r : Fin 128) (n : Fin 1024) : EReal :=
  head (score (qT P cs sn r ⟨n.val / 64, by omega⟩) (kT P cs sn ⟨n.val / 256, by omega⟩) (kh ⟨n.val / 256, by omega⟩) has r)
      (sk (ix1 ⟨n.val / 64, by omega⟩)) (fun x => vT P ⟨n.val / 256, by omega⟩ x ⟨n.val % 64, by omega⟩)
      (fun x => vh ⟨n.val / 256, by omega⟩ x ⟨n.val % 64, by omega⟩) r
    * silu (P (ix3 0 r ⟨4608 + n.val, by omega⟩))

/-- The output block. -/
def tile (sk : Vec Ideal S16 .f32) (P : Vec Ideal S1x128x5632 .bf16) (cs sn : Vec Ideal S128x128 .f32)
    (lg lb : Vec Ideal S1x1024 .f32) (ws : Vec Ideal S8x128x128 .f32) (bs : Vec Ideal S128x8 .f32)
    (has : Prop) [Decidable has] (kh vh : Fin 4 → Fin 128 → Fin 64 → EReal) : Vec Ideal S1x128x2048 .bf16 := fun j =>
  have h : (j 2).val < 2048 := (j 2).isLt
  if h' : (j 2).val < 1024 then gateT P lg lb ws bs (j 1) ⟨(j 2).val, h'⟩
    else attnT P cs sn sk has kh vh (j 1) ⟨(j 2).val - 1024, by omega⟩

theorem cols_at (P : Vec Ideal S1x128x5632 .bf16) (o : Nat)
    (h : ∀ a, (![0, 0, o] : Fin 3 → Nat) a + S1x128x128.size a ≤ S1x128x5632.size a) (ho : o + 128 ≤ 5632) (r l : Fin 128) :
    cols P o h (ix3 0 r l) = P (ix3 0 r ⟨o + l.val, by omega⟩) :=
  View.ld_unit_apply_of _ _ _ _ _ _ fun | 0 => (Nat.zero_add _).symm | 1 => (Nat.zero_add _).symm | 2 => rfl

theorem entry_at (k : Vec Ideal S8x128x128 .bf16) (e : Nat)
    (h : ∀ a, (![e, 0, 0] : Fin 3 → Nat) a + S1x128x128.size a ≤ S8x128x128.size a) (he : e < 8) (r l : Fin 128) :
    entry k e h (ix3 0 r l) = k (ix3 ⟨e, he⟩ r l) :=
  View.ld_unit_apply_of _ _ _ _ _ _ fun | 0 => rfl | 1 => (Nat.zero_add _).symm | 2 => (Nat.zero_add _).symm

theorem sink_at (sk : Vec Ideal S16 .f32) (e : Nat) (h : ∀ a, (![e] : Fin 1 → Nat) a + S1.size a ≤ S16.size a) (he : e < 16)
    (h' : 0 < (Rect.unit (s := S16) ![e] ![1] h).shape.numel) :
    View.ld sk (Rect.unit ![e] ![1] h) (Shape.Idx.first h') = sk (ix1 ⟨e, he⟩) :=
  View.ld_unit_apply_of _ _ _ _ _ _ fun | 0 => rfl

/-- A group's block of the gating mixer: its slice of the layer norm from column `o` on. -/
def gateBlk (vn : FVec Ideal S128x1024 .bf16) (o : Nat) (h : S128x1024.Slices ![0, o] S128x128) (w : Vec Ideal S1x128x128 .f32)
    (b : Vec Ideal S128x1 .f32) (u z : Vec Ideal S1x128x128 .bf16) : FVec Ideal S1x128x128 .bf16 :=
  k0_pay9 (k0_pay7 w) (extractStridedSlice S128x128 ![0, o] vn h) (constant S128x128 .f32 0x00000000#32) b u z

/-- A bit as a real number. -/
theorem bit_real (b : BitVec 1) : FloatOps.sitofp (F := Ideal) .f32 (BitVec.setWidth 32 b) = Scalar.select b (1 : EReal) 0 := by
  rcases (by decide +revert : b = 0#1 ∨ b = 1#1) with h | h <;> subst h
  · change (((BitVec.setWidth 32 0#1).toInt : ℝ) : EReal) = 0
    simp
  · change (((BitVec.setWidth 32 1#1).toInt : ℝ) : EReal) = 1
    have : (BitVec.setWidth 32 1#1).toInt = 1 := by decide
    simp [this]

theorem mask_at (x r : Fin 128) : k0_pay6 (F := Ideal) (ix2 r x) = if x.val ≤ r.val then 1 else 0 := by
  pointwise [k0_pay6, k0_pay4]
  rw [bit_real, select_le]

theorem norm_at (P : Vec Ideal S1x128x5632 .bf16) (lg lb : Vec Ideal S1x1024 .f32) (r : Fin 128) (n : Fin 1024) :
    k0_pay5 (F := Ideal) (View.ld P (Rect.unit ![0, 0, 1024] ![1, 128, 1024] inb_S1x128x5632_S1x128x1024_0_0_1024)) lg lb (ix2 r n) =
      normT P lg lb r n := by
  have h : ∀ k : Fin 1024, View.ld P (Rect.unit ![0, 0, 1024] ![1, 128, 1024] inb_S1x128x5632_S1x128x1024_0_0_1024) (ix3 0 r k) =
      P (ix3 0 r ⟨1024 + k.val, by omega⟩) := fun k =>
    View.ld_unit_apply_of _ _ _ _ _ _ fun | 0 => (Nat.zero_add _).symm | 1 => (Nat.zero_add _).symm | 2 => rfl
  unfold normT
  simp only [← h]
  generalize View.ld P (Rect.unit ![0, 0, 1024] ![1, 128, 1024] inb_S1x128x5632_S1x128x1024_0_0_1024) = x
  pointwise [k0_pay5]

theorem gateBlk_at (vn : FVec Ideal S128x1024 .bf16) (o : Nat) (h : S128x1024.Slices ![0, o] S128x128) (ho : o + 128 ≤ 1024)
    (w : Vec Ideal S1x128x128 .f32)
    (b : Vec Ideal S128x1 .f32) (u z : Vec Ideal S1x128x128 .bf16) (r l : Fin 128) :
    gateBlk vn o h w b u z (ix3 0 r l) = u (ix3 0 r l) *
      ((∑ x : Fin 128, (w (ix3 0 r x) * (if x.val ≤ r.val then 1 else 0)) * vn (ix2 x ⟨o + l.val, by omega⟩)) + b (ix2 r 0))
      * silu (z (ix3 0 r l)) := by
  simp only [← mask_at]
  unfold gateBlk k0_pay7
  generalize k0_pay6 (F := Ideal) = mk
  pointwise [k0_pay9, silu]

theorem wide_at (v : Vec Ideal S1x128x128 .bf16) (x l : Fin 128) : k0_pay31 (F := Ideal) v (ix2 x l) = v (ix3 0 x l) := by
  pointwise [k0_pay31]

theorem lay_low (f : Fin 4 → Fin 128 → Fin 64 → EReal) (g : Nat) (hg : g < 4) (x l : Fin 128) :
    lay f ⟨2 * g, by omega⟩ x l = if l.val < 64 then f ⟨g, hg⟩ x ⟨l.val % 64, by omega⟩ else 0 := by
  unfold lay
  have h : l.val / 64 = 2 * g % 2 ↔ l.val < 64 := by omega
  have h' : 2 * g / 2 = g := by omega
  refine (if_congr h rfl rfl).trans ?_
  simp only [h']

theorem lay_high (f : Fin 4 → Fin 128 → Fin 64 → EReal) (g : Nat) (hg : g < 4) (x l : Fin 128) :
    lay f ⟨2 * g + 1, by omega⟩ x l = if l.val < 64 then 0 else f ⟨g, hg⟩ x ⟨l.val % 64, by omega⟩ := by
  unfold lay
  have h : l.val / 64 = (2 * g + 1) % 2 ↔ ¬ l.val < 64 := by omega
  refine (if_congr h rfl rfl).trans ?_
  have h' : (2 * g + 1) / 2 = g := by omega
  rw [ite_not]
  simp only [h']

/-- Group `g` of the gating mixer. -/
def gateG (P : Vec Ideal S1x128x5632 .bf16) (lg lb : Vec Ideal S1x1024 .f32) (ws : Vec Ideal S8x128x128 .f32)
    (bs : Vec Ideal S128x8 .f32) (g : Nat) (h1 : S128x1024.Slices ![0, 128 * g] S128x128)
    (h2 : ∀ a, (![g, 0, 0] : Fin 3 → Nat) a + S1x128x128.size a ≤ S8x128x128.size a)
    (h3 : ∀ a, (![0, g] : Fin 2 → Nat) a + S128x1.size a ≤ S128x8.size a)
    (h4 : ∀ a, (![0, 0, 128 * g] : Fin 3 → Nat) a + S1x128x128.size a ≤ S1x128x5632.size a)
    (h5 : ∀ a, (![0, 0, 2048 + 128 * g] : Fin 3 → Nat) a + S1x128x128.size a ≤ S1x128x5632.size a) : FVec Ideal S1x128x128 .bf16 :=
  gateBlk (k0_pay5 (View.ld P (Rect.unit ![0, 0, 1024] ![1, 128, 1024] inb_S1x128x5632_S1x128x1024_0_0_1024)) lg lb) (128 * g) h1
    (View.ld ws (Rect.unit ![g, 0, 0] ![1, 128, 128] h2)) (View.ld bs (Rect.unit ![0, g] ![128, 1] h3)) (cols P (128 * g) h4)
    (cols P (2048 + 128 * g) h5)

theorem gateG_at (sk : Vec Ideal S16 .f32) (P : Vec Ideal S1x128x5632 .bf16) (cs sn : Vec Ideal S128x128 .f32)
    (lg lb : Vec Ideal S1x1024 .f32) (ws : Vec Ideal S8x128x128 .f32) (bs : Vec Ideal S128x8 .f32) (has : BitVec 1)
    (kh vh : Fin 4 → Fin 128 → Fin 64 → EReal) (g : Nat) (hg : g < 8) (h1 : S128x1024.Slices ![0, 128 * g] S128x128)
    (h2 : ∀ a, (![g, 0, 0] : Fin 3 → Nat) a + S1x128x128.size a ≤ S8x128x128.size a)
    (h3 : ∀ a, (![0, g] : Fin 2 → Nat) a + S128x1.size a ≤ S128x8.size a)
    (h4 : ∀ a, (![0, 0, 128 * g] : Fin 3 → Nat) a + S1x128x128.size a ≤ S1x128x5632.size a)
    (h5 : ∀ a, (![0, 0, 2048 + 128 * g] : Fin 3 → Nat) a + S1x128x128.size a ≤ S1x128x5632.size a)
    (h9 : ∀ a, (![0, 0, 128 * g] : Fin 3 → Nat) a + S1x128x128.size a ≤ S1x128x2048.size a) (x : S1x128x128.Idx) :
    gateG P lg lb ws bs g h1 h2 h3 h4 h5 x =
      tile sk P cs sn lg lb ws bs (has = 1#1) kh vh ((Rect.unit (s := S1x128x2048) ![0, 0, 128 * g] ![1, 128, 128] h9).emb x) := by
  obtain ⟨r, l, rfl⟩ : ∃ r l : Fin 128, x = ix3 0 r l := ⟨x 1, x 2, by blk_ext []⟩
  have he : (Rect.unit (s := S1x128x2048) ![0, 0, 128 * g] ![1, 128, 128] h9).emb (ix3 0 r l) =
      ix3 0 r ⟨128 * g + l.val, by omega⟩ := by blk_ext []
  rw [he]
  unfold gateG
  have hw : ∀ x, View.ld ws (Rect.unit ![g, 0, 0] ![1, 128, 128] h2) (ix3 0 r x) = ws (ix3 ⟨g, hg⟩ r x) := fun x =>
    View.ld_unit_apply_of _ _ _ _ _ _ fun | 0 => rfl | 1 => (Nat.zero_add _).symm | 2 => (Nat.zero_add _).symm
  have hb : View.ld bs (Rect.unit ![0, g] ![128, 1] h3) (ix2 r 0) = bs (ix2 r ⟨g, hg⟩) :=
    View.ld_unit_apply_of _ _ _ _ _ _ fun | 0 => (Nat.zero_add _).symm | 1 => rfl
  rw [gateBlk_at _ _ _ (by omega), hb, cols_at _ _ _ (by omega), cols_at _ _ _ (by omega)]
  simp only [hw, norm_at]
  unfold tile gateT
  simp only [ix3_1, ix3_2]
  refine Eq.trans ?_ (dif_pos (by omega)).symm
  have hg' : (128 * g + l.val) / 128 = g := by omega
  simp only [hg']
  refine congrArg₂ (· * ·) rfl (congrArg silu (congrArg P ?_))
  blk_ext []

theorem keyAt (P : Vec Ideal S1x128x5632 .bf16) (cs sn : Vec Ideal S128x128 .f32) (j : Fin 2) (g c : Nat) (hg : g < 4) (hc : g = 2 * c + j.val)
    (h3 : ∀ a, (![0, 0, 4096 + 128 * c] : Fin 3 → Nat) a + S1x128x128.size a ≤ S1x128x5632.size a) (x l : Fin 128) :
    keyCol cs sn (cols P (4096 + 128 * c) h3) (ix2 x ⟨64 * j.val + l.val % 64, by omega⟩) = kT P cs sn ⟨g, hg⟩ x ⟨l.val % 64, by omega⟩ := by
  rw [keyCol_at, cols_at _ _ _ (by omega), cols_at _ _ _ (by omega)]
  unfold kT
  refine congrArg₂ (· + ·) (congrArg₂ (· * ·) (congrArg P ?_) (congrArg cs ?_))
    (congrArg₂ (· * ·) (congrArg P ?_) (congrArg sn ?_)) <;> blk_ext []

theorem valAt (P : Vec Ideal S1x128x5632 .bf16) (j : Fin 2) (g c : Nat) (hg : g < 4) (hc : g = 2 * c + j.val)
    (h4 : ∀ a, (![0, 0, 4352 + 128 * c] : Fin 3 → Nat) a + S1x128x128.size a ≤ S1x128x5632.size a) (x l : Fin 128) :
    k0_pay31 (F := Ideal) (cols P (4352 + 128 * c) h4) (ix2 x ⟨64 * j.val + l.val % 64, by omega⟩) = vT P ⟨g, hg⟩ x ⟨l.val % 64, by omega⟩ := by
  rw [wide_at, cols_at _ _ _ (by omega)]
  unfold vT
  exact congrArg P (by blk_ext [])

set_option maxHeartbeats 1000000 in
theorem pairOf_at (j : Fin 2) (a b : IVec S128x128 1 → FVec Ideal S128x128 .f32 → FVec Ideal S128x128 .bf16)
    (ha : ∀ (x : FVec Ideal S128x128 .f32) (r l : Fin 128),
      a low x (ix2 r l) = if l.val < 64 then x (ix2 r ⟨64 * j.val + l.val % 64, by omega⟩) else 0)
    (hb : ∀ (x : FVec Ideal S128x128 .f32) (r l : Fin 128),
      b low x (ix2 r l) = if l.val < 64 then 0 else x (ix2 r ⟨64 * j.val + l.val % 64, by omega⟩))
    (sk : Vec Ideal S16 .f32) (P : Vec Ideal S1x128x5632 .bf16) (cs sn : Vec Ideal S128x128 .f32)
    (lg lb : Vec Ideal S1x1024 .f32) (ws : Vec Ideal S8x128x128 .f32) (bs : Vec Ideal S128x8 .f32) (has : BitVec 1)
    (k v : Vec Ideal S8x128x128 .bf16) (kh vh : Fin 4 → Fin 128 → Fin 64 → EReal)
    (hk : ∀ e x l, k (ix3 e x l) = lay kh e x l) (hv : ∀ e x l, v (ix3 e x l) = lay vh e x l)
    (p g c : Nat) (hp : p < 8) (hg : g = p / 2) (hc : g = 2 * c + j.val)
    (h1 : ∀ a, (![0, 0, 3072 + 128 * p] : Fin 3 → Nat) a + S1x128x128.size a ≤ S1x128x5632.size a)
    (h2 : ∀ a, (![0, 0, 4608 + 128 * p] : Fin 3 → Nat) a + S1x128x128.size a ≤ S1x128x5632.size a)
    (h3 : ∀ a, (![0, 0, 4096 + 128 * c] : Fin 3 → Nat) a + S1x128x128.size a ≤ S1x128x5632.size a)
    (h4 : ∀ a, (![0, 0, 4352 + 128 * c] : Fin 3 → Nat) a + S1x128x128.size a ≤ S1x128x5632.size a)
    (h5 : ∀ a, (![2 * g, 0, 0] : Fin 3 → Nat) a + S1x128x128.size a ≤ S8x128x128.size a)
    (h6 : ∀ a, (![2 * g + 1, 0, 0] : Fin 3 → Nat) a + S1x128x128.size a ≤ S8x128x128.size a)
    (h7 : ∀ a, (![2 * p] : Fin 1 → Nat) a + S1.size a ≤ S16.size a)
    (h8 : ∀ a, (![2 * p + 1] : Fin 1 → Nat) a + S1.size a ≤ S16.size a)
    (h9 : ∀ a, (![0, 0, 1024 + 128 * p] : Fin 3 → Nat) a + S1x128x128.size a ≤ S1x128x2048.size a) (x : S1x128x128.Idx) :
    pairOf a b P cs sn sk has k v p g c h1 h2 h3 h4 h5 h6 h7 h8 x =
      tile sk P cs sn lg lb ws bs (has = 1#1) kh vh ((Rect.unit (s := S1x128x2048) ![0, 0, 1024 + 128 * p] ![1, 128, 128] h9).emb x) := by
  obtain ⟨r, l, rfl⟩ : ∃ r l : Fin 128, x = ix3 0 r l := ⟨x 1, x 2, by blk_ext []⟩
  have he : (Rect.unit (s := S1x128x2048) ![0, 0, 1024 + 128 * p] ![1, 128, 128] h9).emb (ix3 0 r l) =
      ix3 0 r ⟨1024 + 128 * p + l.val, by omega⟩ := by blk_ext []
  rw [he]
  have hcs : c < 2 := by omega
  unfold pairOf
  rw [pair_at _ _ _ _ _ has _ _ _ _ _ _ _ (kT P cs sn ⟨g, by omega⟩) (vT P ⟨g, by omega⟩) (kh ⟨g, by omega⟩) (vh ⟨g, by omega⟩)]
  · unfold tile attnT
    simp only [ix3_1, ix3_2]
    refine Eq.trans ?_ (dif_neg (by omega)).symm
    have hn : 1024 + 128 * p + l.val - 1024 = 128 * p + l.val := by omega
    have hh : (1024 + 128 * p + l.val - 1024) / 64 = 2 * p + l.val / 64 := by omega
    have hg' : (1024 + 128 * p + l.val - 1024) / 256 = g := by omega
    have hd : (1024 + 128 * p + l.val - 1024) % 64 = l.val % 64 := by omega
    simp only [hh, hg', hd]
    refine congrArg₂ (· * ·) ?_ (congrArg silu ?_)
    · have hs : (if l.val < 64 then View.ld sk (Rect.unit ![2 * p] ![1] h7) (Shape.Idx.first Nat.zero_lt_one)
          else View.ld sk (Rect.unit ![2 * p + 1] ![1] h8) (Shape.Idx.first Nat.zero_lt_one)) =
          sk (ix1 ⟨2 * p + l.val / 64, by omega⟩) := by
        split
        · exact (sink_at sk (2 * p) h7 (by omega) Nat.zero_lt_one).trans (congrArg sk (by blk_ext []))
        · exact (sink_at sk (2 * p + 1) h8 (by omega) Nat.zero_lt_one).trans (congrArg sk (by blk_ext []))
      have hq : (fun d : Fin 64 => qryCol cs sn (cols P (3072 + 128 * p) h1) (ix2 r ⟨64 * (l.val / 64) + d.val, by omega⟩)) =
          qT P cs sn r ⟨2 * p + l.val / 64, by omega⟩ := by
        funext d
        rw [qryCol_at, keyCol_at, cols_at _ _ _ (by omega), cols_at _ _ _ (by omega)]
        unfold qT
        refine congrArg (· * _) (congrArg₂ (· + ·) (congrArg₂ (· * ·) (congrArg P ?_) (congrArg cs ?_))
          (congrArg₂ (· * ·) (congrArg P ?_) (congrArg sn ?_))) <;> blk_ext []
      rw [hs, hq]
    · rw [cols_at _ _ _ (by omega)]
      exact congrArg P (by blk_ext [])
  · intro x l
    rw [ha]
    refine ite_congr rfl (fun h => ?_) (fun _ => rfl)
    exact keyAt P cs sn j g c (by omega) hc h3 x l
  · intro x l
    rw [hb]
    refine ite_congr rfl (fun _ => rfl) (fun h => ?_)
    exact keyAt P cs sn j g c (by omega) hc h3 x l
  · intro x l
    rw [ha]
    refine ite_congr rfl (fun h => ?_) (fun _ => rfl)
    exact valAt P j g c (by omega) hc h4 x l
  · intro x l
    rw [hb]
    refine ite_congr rfl (fun _ => rfl) (fun h => ?_)
    exact valAt P j g c (by omega) hc h4 x l
  · intro x l
    rw [entry_at _ _ _ (by omega), hk]
    exact lay_low kh g (by omega) x l
  · intro x l
    rw [entry_at _ _ _ (by omega), hk]
    exact lay_high kh g (by omega) x l
  · intro x l
    rw [entry_at _ _ _ (by omega), hv]
    exact lay_low vh g (by omega) x l
  · intro x l
    rw [entry_at _ _ _ (by omega), hv]
    exact lay_high vh g (by omega) x l

end Cert.KernelMixIdeal.Closed

end
-- ==== Proof.Mixers.OutA.lean ====
/- The output block of one grid point of the mixers. -/
module

public import proofs.«01_k».proof.Proof.Mixers.Tile

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen

variable (m : (ℓ : Loc nD τ sig) → Buf (Elt Ideal) ℓ)

/-- Entry `e` of a buffer that one store filled. -/
theorem filled_at (v : View sig .tc .vmem S8x128x128 .bf16) (w : Vec Ideal S8x128x128 .bf16)
    (h0 : ∀ a, (![0, 0, 0] : Fin 3 → Nat) a + (![8, 128, 128] : Fin 3 → Nat) a ≤ S8x128x128.size a) (e : Nat)
    (h : ∀ a, (![e, 0, 0] : Fin 3 → Nat) a + S1x128x128.size a ≤ S8x128x128.size a) :
    v.readCov [(⟨Rect.unit ![0, 0, 0] ![8, 128, 128] h0, w⟩ : View.Piece (Elt Ideal) S8x128x128 .bf16)] (Rect.unit ![e, 0, 0] ![1, 128, 128] h).toLoadRect =
      View.ld w (Rect.unit ![e, 0, 0] ![1, 128, 128] h) := by
  have hz : (![0, 0, 0] : Fin 3 → Nat) = fun _ => 0 := by decide
  rw [View.readCov_eq_canon_ld _ _ _ fun y => ⟨_, List.mem_singleton_self _, View.mem_set_unit_zero hz h0 y⟩, View.canon_unit_zero hz]

/-- The carried keys before a batch's first block. -/
theorem zero_k (i) : k0_pay2 (F := Ideal) i = 0 := by
  pointwise [k0_pay2]

/-- The carried values before a batch's first block. -/
theorem zero_v (i) : k0_pay3 (F := Ideal) i = 0 := by
  pointwise [k0_pay3]

set_option maxHeartbeats 8000000 in
theorem out_A (c : Dev nD) (t : Fin cfg0.N) (h : t.val % 32 = 0) :
    (outsAt0 m c t.val t.isLt).1 = tile (iblk m c 0 t) (iblk m c 1 t) (iblk m c 2 t) (iblk m c 3 t) (iblk m c 4 t) (iblk m c 5 t)
      (iblk m c 6 t) (iblk m c 7 t) (Scalar.cmpi .sgt (BitVec.ofNat 32 (grid0.coords t 1).val) 0#32 = 1#1) (fun _ _ _ => 0)
      fun _ _ _ => 0 := by
  funext j
  rw [outsAt0_A m c t h]
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  generalize Scalar.cmpi CmpIPredicate.sgt (BitVec.ofNat 32 (grid0.coords t 1).val) 0#32 = has
  have hk := filled_at (View.whole cc0_scratch0) (k0_pay2 (F := Ideal)) inb_S8x128x128_S8x128x128_0_0_0
  have hv := filled_at (View.whole cc0_scratch1) (k0_pay3 (F := Ideal)) inb_S8x128x128_S8x128x128_0_0_0
  simp only [hk, hv]
  have ek : ∀ e x l, k0_pay2 (F := Ideal) (ix3 e x l) = lay (fun _ _ _ => 0) e x l := fun e x l => by
    rw [zero_k]; unfold lay; simp
  have ev : ∀ e x l, k0_pay3 (F := Ideal) (ix3 e x l) = lay (fun _ _ _ => 0) e x l := fun e x l => by
    rw [zero_v]; unfold lay; simp
  generalize k0_pay2 (F := Ideal) = k at ek ⊢
  generalize k0_pay3 (F := Ideal) = v at ev ⊢
  generalize (fun _ _ _ => 0 : Fin 4 → Fin 128 → Fin 64 → EReal) = kh at ek ev ⊢
  refine View.canon_apply_of_pieces (tile sk P cs sn lg lb ws bs (has = 1#1) kh kh) _ ?_ j ?_
  · intro p hp
    simp only [List.mem_cons, List.not_mem_nil, or_false] at hp
    rcases hp with rfl | rfl | rfl | rfl | rfl | rfl | rfl | rfl | rfl | rfl | rfl | rfl | rfl | rfl | rfl | rfl
    · change ∀ x, pairOf k0_pay39 k0_pay42 P cs sn sk has k v 7 3 1 (by decide) (by decide) (by decide) (by decide) (by decide) (by decide) (by decide) (by decide) x = _
      exact fun x => pairOf_at 1 k0_pay39 k0_pay42 low1 high1 sk P cs sn lg lb ws bs has k v kh kh ek ev 7 3 1 (by omega) rfl rfl _ _ _ _ _ _ _ _ (by decide) x
    · change ∀ x, pairOf k0_pay39 k0_pay42 P cs sn sk has k v 6 3 1 (by decide) (by decide) (by decide) (by decide) (by decide) (by decide) (by decide) (by decide) x = _
      exact fun x => pairOf_at 1 k0_pay39 k0_pay42 low1 high1 sk P cs sn lg lb ws bs has k v kh kh ek ev 6 3 1 (by omega) rfl rfl _ _ _ _ _ _ _ _ (by decide) x
    · change ∀ x, pairOf k0_pay34 k0_pay37 P cs sn sk has k v 5 2 1 (by decide) (by decide) (by decide) (by decide) (by decide) (by decide) (by decide) (by decide) x = _
      exact fun x => pairOf_at 0 k0_pay34 k0_pay37 low0 high0 sk P cs sn lg lb ws bs has k v kh kh ek ev 5 2 1 (by omega) rfl rfl _ _ _ _ _ _ _ _ (by decide) x
    · change ∀ x, pairOf k0_pay34 k0_pay37 P cs sn sk has k v 4 2 1 (by decide) (by decide) (by decide) (by decide) (by decide) (by decide) (by decide) (by decide) x = _
      exact fun x => pairOf_at 0 k0_pay34 k0_pay37 low0 high0 sk P cs sn lg lb ws bs has k v kh kh ek ev 4 2 1 (by omega) rfl rfl _ _ _ _ _ _ _ _ (by decide) x
    · change ∀ x, pairOf k0_pay39 k0_pay42 P cs sn sk has k v 3 1 0 (by decide) (by decide) (by decide) (by decide) (by decide) (by decide) (by decide) (by decide) x = _
      exact fun x => pairOf_at 1 k0_pay39 k0_pay42 low1 high1 sk P cs sn lg lb ws bs has k v kh kh ek ev 3 1 0 (by omega) rfl rfl _ _ _ _ _ _ _ _ (by decide) x
    · change ∀ x, pairOf k0_pay39 k0_pay42 P cs sn sk has k v 2 1 0 (by decide) (by decide) (by decide) (by decide) (by decide) (by decide) (by decide) (by decide) x = _
      exact fun x => pairOf_at 1 k0_pay39 k0_pay42 low1 high1 sk P cs sn lg lb ws bs has k v kh kh ek ev 2 1 0 (by omega) rfl rfl _ _ _ _ _ _ _ _ (by decide) x
    · change ∀ x, pairOf k0_pay34 k0_pay37 P cs sn sk has k v 1 0 0 (by decide) (by decide) (by decide) (by decide) (by decide) (by decide) (by decide) (by decide) x = _
      exact fun x => pairOf_at 0 k0_pay34 k0_pay37 low0 high0 sk P cs sn lg lb ws bs has k v kh kh ek ev 1 0 0 (by omega) rfl rfl _ _ _ _ _ _ _ _ (by decide) x
    · change ∀ x, pairOf k0_pay34 k0_pay37 P cs sn sk has k v 0 0 0 (by decide) (by decide) (by decide) (by decide) (by decide) (by decide) (by decide) (by decide) x = _
      exact fun x => pairOf_at 0 k0_pay34 k0_pay37 low0 high0 sk P cs sn lg lb ws bs has k v kh kh ek ev 0 0 0 (by omega) rfl rfl _ _ _ _ _ _ _ _ (by decide) x
    · change ∀ x, gateG P lg lb ws bs 7 (by decide) (by decide) (by decide) (by decide) (by decide) x = _
      exact fun x => gateG_at sk P cs sn lg lb ws bs has kh kh 7 (by omega) _ _ _ _ _ (by decide) x
    · change ∀ x, gateG P lg lb ws bs 6 (by decide) (by decide) (by decide) (by decide) (by decide) x = _
      exact fun x => gateG_at sk P cs sn lg lb ws bs has kh kh 6 (by omega) _ _ _ _ _ (by decide) x
    · change ∀ x, gateG P lg lb ws bs 5 (by decide) (by decide) (by decide) (by decide) (by decide) x = _
      exact fun x => gateG_at sk P cs sn lg lb ws bs has kh kh 5 (by omega) _ _ _ _ _ (by decide) x
    · change ∀ x, gateG P lg lb ws bs 4 (by decide) (by decide) (by decide) (by decide) (by decide) x = _
      exact fun x => gateG_at sk P cs sn lg lb ws bs has kh kh 4 (by omega) _ _ _ _ _ (by decide) x
    · change ∀ x, gateG P lg lb ws bs 3 (by decide) (by decide) (by decide) (by decide) (by decide) x = _
      exact fun x => gateG_at sk P cs sn lg lb ws bs has kh kh 3 (by omega) _ _ _ _ _ (by decide) x
    · change ∀ x, gateG P lg lb ws bs 2 (by decide) (by decide) (by decide) (by decide) (by decide) x = _
      exact fun x => gateG_at sk P cs sn lg lb ws bs has kh kh 2 (by omega) _ _ _ _ _ (by decide) x
    · change ∀ x, gateG P lg lb ws bs 1 (by decide) (by decide) (by decide) (by decide) (by decide) x = _
      exact fun x => gateG_at sk P cs sn lg lb ws bs has kh kh 1 (by omega) _ _ _ _ _ (by decide) x
    · change ∀ x, gateG P lg lb ws bs 0 (by decide) (by decide) (by decide) (by decide) (by decide) x = _
      exact fun x => gateG_at sk P cs sn lg lb ws bs has kh kh 0 (by omega) _ _ _ _ _ (by decide) x
  · exact View.cover_of_tiledL (s := S1x128x2048) _ S1x128x128.size (by sl_kernel_rfl) j

end Cert.KernelMixIdeal.Closed

end
-- ==== Proof.Mixers.OutB.lean ====
/- The output block of one grid point of the mixers. -/
module

public import proofs.«01_k».proof.Proof.Mixers.Tile

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen

variable (m : (ℓ : Loc nD τ sig) → Buf (Elt Ideal) ℓ)

set_option maxHeartbeats 8000000 in
theorem out_B (c : Dev nD) (t : Fin cfg0.N) (h : ¬ t.val % 32 = 0) (kh vh : Fin 4 → Fin 128 → Fin 64 → EReal)
    (ek : ∀ e x l, (outsAt0 m c (t.val - 1) (lt_of_le_of_lt (Nat.sub_le _ _) t.isLt)).2.1 (ix3 e x l) = lay kh e x l)
    (ev : ∀ e x l, (outsAt0 m c (t.val - 1) (lt_of_le_of_lt (Nat.sub_le _ _) t.isLt)).2.2 (ix3 e x l) = lay vh e x l) :
    (outsAt0 m c t.val t.isLt).1 = tile (iblk m c 0 t) (iblk m c 1 t) (iblk m c 2 t) (iblk m c 3 t) (iblk m c 4 t) (iblk m c 5 t)
      (iblk m c 6 t) (iblk m c 7 t) (Scalar.cmpi .sgt (BitVec.ofNat 32 (grid0.coords t 1).val) 0#32 = 1#1) kh vh := by
  funext j
  rw [outsAt0_B m c t h]
  generalize (outsAt0 m c (t.val - 1) _).2.1 = k at ek ⊢
  generalize (outsAt0 m c (t.val - 1) _).2.2 = v at ev ⊢
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  generalize Scalar.cmpi CmpIPredicate.sgt (BitVec.ofNat 32 (grid0.coords t 1).val) 0#32 = has
  have hk : View.read (Elt Ideal) (View.whole cc0_scratch0) ((Memref.isWhole_whole _).unread k) = k :=
    Memref.IsWhole.read_unread (m := Memref.whole cc0_scratch0) (Memref.isWhole_whole _) k
  have hv : View.read (Elt Ideal) (View.whole cc0_scratch1) ((Memref.isWhole_whole _).unread v) = v :=
    Memref.IsWhole.read_unread (m := Memref.whole cc0_scratch1) (Memref.isWhole_whole _) v
  simp only [hk, hv]
  refine View.canon_apply_of_pieces (tile sk P cs sn lg lb ws bs (has = 1#1) kh vh) _ ?_ j ?_
  · intro p hp
    simp only [List.mem_cons, List.not_mem_nil, or_false] at hp
    rcases hp with rfl | rfl | rfl | rfl | rfl | rfl | rfl | rfl | rfl | rfl | rfl | rfl | rfl | rfl | rfl | rfl
    · change ∀ x, pairOf k0_pay39 k0_pay42 P cs sn sk has k v 7 3 1 (by decide) (by decide) (by decide) (by decide) (by decide) (by decide) (by decide) (by decide) x = _
      exact fun x => pairOf_at 1 k0_pay39 k0_pay42 low1 high1 sk P cs sn lg lb ws bs has k v kh vh ek ev 7 3 1 (by omega) rfl rfl _ _ _ _ _ _ _ _ (by decide) x
    · change ∀ x, pairOf k0_pay39 k0_pay42 P cs sn sk has k v 6 3 1 (by decide) (by decide) (by decide) (by decide) (by decide) (by decide) (by decide) (by decide) x = _
      exact fun x => pairOf_at 1 k0_pay39 k0_pay42 low1 high1 sk P cs sn lg lb ws bs has k v kh vh ek ev 6 3 1 (by omega) rfl rfl _ _ _ _ _ _ _ _ (by decide) x
    · change ∀ x, pairOf k0_pay34 k0_pay37 P cs sn sk has k v 5 2 1 (by decide) (by decide) (by decide) (by decide) (by decide) (by decide) (by decide) (by decide) x = _
      exact fun x => pairOf_at 0 k0_pay34 k0_pay37 low0 high0 sk P cs sn lg lb ws bs has k v kh vh ek ev 5 2 1 (by omega) rfl rfl _ _ _ _ _ _ _ _ (by decide) x
    · change ∀ x, pairOf k0_pay34 k0_pay37 P cs sn sk has k v 4 2 1 (by decide) (by decide) (by decide) (by decide) (by decide) (by decide) (by decide) (by decide) x = _
      exact fun x => pairOf_at 0 k0_pay34 k0_pay37 low0 high0 sk P cs sn lg lb ws bs has k v kh vh ek ev 4 2 1 (by omega) rfl rfl _ _ _ _ _ _ _ _ (by decide) x
    · change ∀ x, pairOf k0_pay39 k0_pay42 P cs sn sk has k v 3 1 0 (by decide) (by decide) (by decide) (by decide) (by decide) (by decide) (by decide) (by decide) x = _
      exact fun x => pairOf_at 1 k0_pay39 k0_pay42 low1 high1 sk P cs sn lg lb ws bs has k v kh vh ek ev 3 1 0 (by omega) rfl rfl _ _ _ _ _ _ _ _ (by decide) x
    · change ∀ x, pairOf k0_pay39 k0_pay42 P cs sn sk has k v 2 1 0 (by decide) (by decide) (by decide) (by decide) (by decide) (by decide) (by decide) (by decide) x = _
      exact fun x => pairOf_at 1 k0_pay39 k0_pay42 low1 high1 sk P cs sn lg lb ws bs has k v kh vh ek ev 2 1 0 (by omega) rfl rfl _ _ _ _ _ _ _ _ (by decide) x
    · change ∀ x, pairOf k0_pay34 k0_pay37 P cs sn sk has k v 1 0 0 (by decide) (by decide) (by decide) (by decide) (by decide) (by decide) (by decide) (by decide) x = _
      exact fun x => pairOf_at 0 k0_pay34 k0_pay37 low0 high0 sk P cs sn lg lb ws bs has k v kh vh ek ev 1 0 0 (by omega) rfl rfl _ _ _ _ _ _ _ _ (by decide) x
    · change ∀ x, pairOf k0_pay34 k0_pay37 P cs sn sk has k v 0 0 0 (by decide) (by decide) (by decide) (by decide) (by decide) (by decide) (by decide) (by decide) x = _
      exact fun x => pairOf_at 0 k0_pay34 k0_pay37 low0 high0 sk P cs sn lg lb ws bs has k v kh vh ek ev 0 0 0 (by omega) rfl rfl _ _ _ _ _ _ _ _ (by decide) x
    · change ∀ x, gateG P lg lb ws bs 7 (by decide) (by decide) (by decide) (by decide) (by decide) x = _
      exact fun x => gateG_at sk P cs sn lg lb ws bs has kh vh 7 (by omega) _ _ _ _ _ (by decide) x
    · change ∀ x, gateG P lg lb ws bs 6 (by decide) (by decide) (by decide) (by decide) (by decide) x = _
      exact fun x => gateG_at sk P cs sn lg lb ws bs has kh vh 6 (by omega) _ _ _ _ _ (by decide) x
    · change ∀ x, gateG P lg lb ws bs 5 (by decide) (by decide) (by decide) (by decide) (by decide) x = _
      exact fun x => gateG_at sk P cs sn lg lb ws bs has kh vh 5 (by omega) _ _ _ _ _ (by decide) x
    · change ∀ x, gateG P lg lb ws bs 4 (by decide) (by decide) (by decide) (by decide) (by decide) x = _
      exact fun x => gateG_at sk P cs sn lg lb ws bs has kh vh 4 (by omega) _ _ _ _ _ (by decide) x
    · change ∀ x, gateG P lg lb ws bs 3 (by decide) (by decide) (by decide) (by decide) (by decide) x = _
      exact fun x => gateG_at sk P cs sn lg lb ws bs has kh vh 3 (by omega) _ _ _ _ _ (by decide) x
    · change ∀ x, gateG P lg lb ws bs 2 (by decide) (by decide) (by decide) (by decide) (by decide) x = _
      exact fun x => gateG_at sk P cs sn lg lb ws bs has kh vh 2 (by omega) _ _ _ _ _ (by decide) x
    · change ∀ x, gateG P lg lb ws bs 1 (by decide) (by decide) (by decide) (by decide) (by decide) x = _
      exact fun x => gateG_at sk P cs sn lg lb ws bs has kh vh 1 (by omega) _ _ _ _ _ (by decide) x
    · change ∀ x, gateG P lg lb ws bs 0 (by decide) (by decide) (by decide) (by decide) (by decide) x = _
      exact fun x => gateG_at sk P cs sn lg lb ws bs has kh vh 0 (by omega) _ _ _ _ _ (by decide) x
  · exact View.cover_of_tiledL (s := S1x128x2048) _ S1x128x128.size (by sl_kernel_rfl) j

end Cert.KernelMixIdeal.Closed

end
-- ==== Proof.Mixers.Carried.lean ====
/- What the mixers' grid point carries to the next one. -/
module

public import proofs.«01_k».proof.Proof.Mixers.Tile

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen

variable (m : (ℓ : Loc nD τ sig) → Buf (Elt Ideal) ℓ)

/-- An entry of a carried buffer, as it is stored. -/
def stack (y : FVec Ideal S128x128 .bf16) : FVec Ideal S1x128x128 .bf16 := k0_pay158 y

theorem stack_at (y : FVec Ideal S128x128 .bf16) (x l : Fin 128) : stack y (ix3 0 x l) = y (ix2 x l) := by
  pointwise [stack, k0_pay158]

/-- A carried buffer of heads. -/
def laid (f : Fin 4 → Fin 128 → Fin 64 → EReal) : Vec Ideal S8x128x128 .bf16 := fun i => lay f (i 0) (i 1) (i 2)

/-- Pieces that agree with one function, over whatever was stored before. -/
theorem canon_front {S : Shape} {e : EltTy} (G : S.Idx → Elt Ideal e) :
    ∀ (L L' : List (View.Piece (Elt Ideal) S e)) (_ : ∀ p ∈ L, ∀ x : p.1.shape.Idx, p.2 x = G (p.1.emb x)) (y : S.Idx)
      (_ : ∃ p ∈ L, y ∈ p.1.set), View.canon (L ++ L') y = G y
  | [], _, _, _, hy => by obtain ⟨p, hp, _⟩ := hy; simp at hp
  | p :: L, L', hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_front G L L' (fun q hq => hL q (by simp [hq])) y ?_
      obtain ⟨q, hq, hyq⟩ := hy
      rcases List.mem_cons.mp hq with rfl | hq'
      · exact absurd hyq hm
      · exact ⟨q, hq', hyq⟩

theorem keyLow_at (j : Fin 2) (a : IVec S128x128 1 → FVec Ideal S128x128 .f32 → FVec Ideal S128x128 .bf16)
    (ha : ∀ (x : FVec Ideal S128x128 .f32) (r l : Fin 128),
      a low x (ix2 r l) = if l.val < 64 then x (ix2 r ⟨64 * j.val + l.val % 64, by omega⟩) else 0)
    (P : Vec Ideal S1x128x5632 .bf16) (cs sn : Vec Ideal S128x128 .f32) (g c : Nat) (hg : g < 4) (hc : g = 2 * c + j.val)
    (h3 : ∀ a, (![0, 0, 4096 + 128 * c] : Fin 3 → Nat) a + S1x128x128.size a ≤ S1x128x5632.size a)
    (h9 : ∀ a, (![2 * g, 0, 0] : Fin 3 → Nat) a + S1x128x128.size a ≤ S8x128x128.size a) (y : S1x128x128.Idx) :
    stack (a low (keyCol cs sn (cols P (4096 + 128 * c) h3))) y =
      laid (kT P cs sn) ((Rect.unit (s := S8x128x128) ![2 * g, 0, 0] ![1, 128, 128] h9).emb y) := by
  obtain ⟨x, l, rfl⟩ : ∃ x l : Fin 128, y = ix3 0 x l := ⟨y 1, y 2, by blk_ext []⟩
  have he : (Rect.unit (s := S8x128x128) ![2 * g, 0, 0] ![1, 128, 128] h9).emb (ix3 0 x l) =
      ix3 ⟨2 * g, by omega⟩ x l := by blk_ext []
  rw [he]
  refine (stack_at _ x l).trans ((ha _ x l).trans ?_)
  refine Eq.trans ?_ (lay_low (kT P cs sn) g hg x l).symm
  refine ite_congr rfl (fun _ => ?_) (fun _ => rfl)
  exact keyAt P cs sn j g c hg hc h3 x l

theorem keyHigh_at (j : Fin 2) (a : IVec S128x128 1 → FVec Ideal S128x128 .f32 → FVec Ideal S128x128 .bf16)
    (ha : ∀ (x : FVec Ideal S128x128 .f32) (r l : Fin 128),
      a low x (ix2 r l) = if l.val < 64 then 0 else x (ix2 r ⟨64 * j.val + l.val % 64, by omega⟩))
    (P : Vec Ideal S1x128x5632 .bf16) (cs sn : Vec Ideal S128x128 .f32) (g c : Nat) (hg : g < 4) (hc : g = 2 * c + j.val)
    (h3 : ∀ a, (![0, 0, 4096 + 128 * c] : Fin 3 → Nat) a + S1x128x128.size a ≤ S1x128x5632.size a)
    (h9 : ∀ a, (![2 * g + 1, 0, 0] : Fin 3 → Nat) a + S1x128x128.size a ≤ S8x128x128.size a) (y : S1x128x128.Idx) :
    stack (a low (keyCol cs sn (cols P (4096 + 128 * c) h3))) y =
      laid (kT P cs sn) ((Rect.unit (s := S8x128x128) ![2 * g + 1, 0, 0] ![1, 128, 128] h9).emb y) := by
  obtain ⟨x, l, rfl⟩ : ∃ x l : Fin 128, y = ix3 0 x l := ⟨y 1, y 2, by blk_ext []⟩
  have he : (Rect.unit (s := S8x128x128) ![2 * g + 1, 0, 0] ![1, 128, 128] h9).emb (ix3 0 x l) =
      ix3 ⟨2 * g + 1, by omega⟩ x l := by blk_ext []
  rw [he]
  refine (stack_at _ x l).trans ((ha _ x l).trans ?_)
  refine Eq.trans ?_ (lay_high (kT P cs sn) g hg x l).symm
  refine ite_congr rfl (fun _ => rfl) (fun _ => ?_)
  exact keyAt P cs sn j g c hg hc h3 x l

theorem valLow_at (j : Fin 2) (a : IVec S128x128 1 → FVec Ideal S128x128 .f32 → FVec Ideal S128x128 .bf16)
    (ha : ∀ (x : FVec Ideal S128x128 .f32) (r l : Fin 128),
      a low x (ix2 r l) = if l.val < 64 then x (ix2 r ⟨64 * j.val + l.val % 64, by omega⟩) else 0)
    (P : Vec Ideal S1x128x5632 .bf16) (g c : Nat) (hg : g < 4) (hc : g = 2 * c + j.val)
    (h3 : ∀ a, (![0, 0, 4352 + 128 * c] : Fin 3 → Nat) a + S1x128x128.size a ≤ S1x128x5632.size a)
    (h9 : ∀ a, (![2 * g, 0, 0] : Fin 3 → Nat) a + S1x128x128.size a ≤ S8x128x128.size a) (y : S1x128x128.Idx) :
    stack (a low (k0_pay31 (cols P (4352 + 128 * c) h3))) y =
      laid (vT P) ((Rect.unit (s := S8x128x128) ![2 * g, 0, 0] ![1, 128, 128] h9).emb y) := by
  obtain ⟨x, l, rfl⟩ : ∃ x l : Fin 128, y = ix3 0 x l := ⟨y 1, y 2, by blk_ext []⟩
  have he : (Rect.unit (s := S8x128x128) ![2 * g, 0, 0] ![1, 128, 128] h9).emb (ix3 0 x l) =
      ix3 ⟨2 * g, by omega⟩ x l := by blk_ext []
  rw [he]
  refine (stack_at _ x l).trans ((ha _ x l).trans ?_)
  refine Eq.trans ?_ (lay_low (vT P) g hg x l).symm
  refine ite_congr rfl (fun _ => ?_) (fun _ => rfl)
  exact valAt P j g c hg hc h3 x l

theorem valHigh_at (j : Fin 2) (a : IVec S128x128 1 → FVec Ideal S128x128 .f32 → FVec Ideal S128x128 .bf16)
    (ha : ∀ (x : FVec Ideal S128x128 .f32) (r l : Fin 128),
      a low x (ix2 r l) = if l.val < 64 then 0 else x (ix2 r ⟨64 * j.val + l.val % 64, by omega⟩))
    (P : Vec Ideal S1x128x5632 .bf16) (g c : Nat) (hg : g < 4) (hc : g = 2 * c + j.val)
    (h3 : ∀ a, (![0, 0, 4352 + 128 * c] : Fin 3 → Nat) a + S1x128x128.size a ≤ S1x128x5632.size a)
    (h9 : ∀ a, (![2 * g + 1, 0, 0] : Fin 3 → Nat) a + S1x128x128.size a ≤ S8x128x128.size a) (y : S1x128x128.Idx) :
    stack (a low (k0_pay31 (cols P (4352 + 128 * c) h3))) y =
      laid (vT P) ((Rect.unit (s := S8x128x128) ![2 * g + 1, 0, 0] ![1, 128, 128] h9).emb y) := by
  obtain ⟨x, l, rfl⟩ : ∃ x l : Fin 128, y = ix3 0 x l := ⟨y 1, y 2, by blk_ext []⟩
  have he : (Rect.unit (s := S8x128x128) ![2 * g + 1, 0, 0] ![1, 128, 128] h9).emb (ix3 0 x l) =
      ix3 ⟨2 * g + 1, by omega⟩ x l := by blk_ext []
  rw [he]
  refine (stack_at _ x l).trans ((ha _ x l).trans ?_)
  refine Eq.trans ?_ (lay_high (vT P) g hg x l).symm
  refine ite_congr rfl (fun _ => rfl) (fun _ => ?_)
  exact valAt P j g c hg hc h3 x l

set_option maxHeartbeats 8000000 in
theorem keys_B (c : Dev nD) (t : Fin cfg0.N) (h : ¬ t.val % 32 = 0) (e : Fin 8) (x l : Fin 128) :
    (outsAt0 m c t.val t.isLt).2.1 (ix3 e x l) = lay (kT (iblk m c 1 t) (iblk m c 2 t) (iblk m c 3 t)) e x l := by
  rw [outsAt0_B m c t h]
  generalize (outsAt0 m c (t.val - 1) _).2.1 = k
  generalize (outsAt0 m c (t.val - 1) _).2.2 = v
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  refine View.canon_apply_of_pieces (laid (kT P cs sn)) _ ?_ (ix3 e x l) ?_
  · intro p hp
    simp only [List.mem_cons, List.not_mem_nil, or_false] at hp
    rcases hp with rfl | rfl | rfl | rfl | rfl | rfl | rfl | rfl
    · change ∀ x, stack (k0_pay42 low (keyCol cs sn (cols P (4096 + 128 * 1) (by decide)))) x = _
      exact fun x => keyHigh_at 1 k0_pay42 high1 P cs sn 3 1 (by omega) rfl _ (by decide) x
    · change ∀ x, stack (k0_pay39 low (keyCol cs sn (cols P (4096 + 128 * 1) (by decide)))) x = _
      exact fun x => keyLow_at 1 k0_pay39 low1 P cs sn 3 1 (by omega) rfl _ (by decide) x
    · change ∀ x, stack (k0_pay37 low (keyCol cs sn (cols P (4096 + 128 * 1) (by decide)))) x = _
      exact fun x => keyHigh_at 0 k0_pay37 high0 P cs sn 2 1 (by omega) rfl _ (by decide) x
    · change ∀ x, stack (k0_pay34 low (keyCol cs sn (cols P (4096 + 128 * 1) (by decide)))) x = _
      exact fun x => keyLow_at 0 k0_pay34 low0 P cs sn 2 1 (by omega) rfl _ (by decide) x
    · change ∀ x, stack (k0_pay42 low (keyCol cs sn (cols P (4096 + 128 * 0) (by decide)))) x = _
      exact fun x => keyHigh_at 1 k0_pay42 high1 P cs sn 1 0 (by omega) rfl _ (by decide) x
    · change ∀ x, stack (k0_pay39 low (keyCol cs sn (cols P (4096 + 128 * 0) (by decide)))) x = _
      exact fun x => keyLow_at 1 k0_pay39 low1 P cs sn 1 0 (by omega) rfl _ (by decide) x
    · change ∀ x, stack (k0_pay37 low (keyCol cs sn (cols P (4096 + 128 * 0) (by decide)))) x = _
      exact fun x => keyHigh_at 0 k0_pay37 high0 P cs sn 0 0 (by omega) rfl _ (by decide) x
    · change ∀ x, stack (k0_pay34 low (keyCol cs sn (cols P (4096 + 128 * 0) (by decide)))) x = _
      exact fun x => keyLow_at 0 k0_pay34 low0 P cs sn 0 0 (by omega) rfl _ (by decide) x
  · exact View.cover_of_tiledL (s := S8x128x128) _ S1x128x128.size (by sl_kernel_rfl) (ix3 e x l)

set_option maxHeartbeats 8000000 in
theorem vals_B (c : Dev nD) (t : Fin cfg0.N) (h : ¬ t.val % 32 = 0) (e : Fin 8) (x l : Fin 128) :
    (outsAt0 m c t.val t.isLt).2.2 (ix3 e x l) = lay (vT (iblk m c 1 t)) e x l := by
  rw [outsAt0_B m c t h]
  generalize (outsAt0 m c (t.val - 1) _).2.1 = k
  generalize (outsAt0 m c (t.val - 1) _).2.2 = v
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  refine View.canon_apply_of_pieces (laid (vT P)) _ ?_ (ix3 e x l) ?_
  · intro p hp
    simp only [List.mem_cons, List.not_mem_nil, or_false] at hp
    rcases hp with rfl | rfl | rfl | rfl | rfl | rfl | rfl | rfl
    · change ∀ x, stack (k0_pay42 low (k0_pay31 (cols P (4352 + 128 * 1) (by decide)))) x = _
      exact fun x => valHigh_at 1 k0_pay42 high1 P 3 1 (by omega) rfl _ (by decide) x
    · change ∀ x, stack (k0_pay39 low (k0_pay31 (cols P (4352 + 128 * 1) (by decide)))) x = _
      exact fun x => valLow_at 1 k0_pay39 low1 P 3 1 (by omega) rfl _ (by decide) x
    · change ∀ x, stack (k0_pay37 low (k0_pay31 (cols P (4352 + 128 * 1) (by decide)))) x = _
      exact fun x => valHigh_at 0 k0_pay37 high0 P 2 1 (by omega) rfl _ (by decide) x
    · change ∀ x, stack (k0_pay34 low (k0_pay31 (cols P (4352 + 128 * 1) (by decide)))) x = _
      exact fun x => valLow_at 0 k0_pay34 low0 P 2 1 (by omega) rfl _ (by decide) x
    · change ∀ x, stack (k0_pay42 low (k0_pay31 (cols P (4352 + 128 * 0) (by decide)))) x = _
      exact fun x => valHigh_at 1 k0_pay42 high1 P 1 0 (by omega) rfl _ (by decide) x
    · change ∀ x, stack (k0_pay39 low (k0_pay31 (cols P (4352 + 128 * 0) (by decide)))) x = _
      exact fun x => valLow_at 1 k0_pay39 low1 P 1 0 (by omega) rfl _ (by decide) x
    · change ∀ x, stack (k0_pay37 low (k0_pay31 (cols P (4352 + 128 * 0) (by decide)))) x = _
      exact fun x => valHigh_at 0 k0_pay37 high0 P 0 0 (by omega) rfl _ (by decide) x
    · change ∀ x, stack (k0_pay34 low (k0_pay31 (cols P (4352 + 128 * 0) (by decide)))) x = _
      exact fun x => valLow_at 0 k0_pay34 low0 P 0 0 (by omega) rfl _ (by decide) x
  · exact View.cover_of_tiledL (s := S8x128x128) _ S1x128x128.size (by sl_kernel_rfl) (ix3 e x l)

set_option maxHeartbeats 8000000 in
theorem keys_A (c : Dev nD) (t : Fin cfg0.N) (h : t.val % 32 = 0) (e : Fin 8) (x l : Fin 128) :
    (outsAt0 m c t.val t.isLt).2.1 (ix3 e x l) = lay (kT (iblk m c 1 t) (iblk m c 2 t) (iblk m c 3 t)) e x l := by
  rw [outsAt0_A m c t h]
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  refine canon_front (laid (kT P cs sn)) [_, _, _, _, _, _, _, _] [_] ?_ (ix3 e x l) ?_
  · intro p hp
    simp only [List.mem_cons, List.not_mem_nil, or_false] at hp
    rcases hp with rfl | rfl | rfl | rfl | rfl | rfl | rfl | rfl
    · change ∀ x, stack (k0_pay42 low (keyCol cs sn (cols P (4096 + 128 * 1) (by decide)))) x = _
      exact fun x => keyHigh_at 1 k0_pay42 high1 P cs sn 3 1 (by omega) rfl _ (by decide) x
    · change ∀ x, stack (k0_pay39 low (keyCol cs sn (cols P (4096 + 128 * 1) (by decide)))) x = _
      exact fun x => keyLow_at 1 k0_pay39 low1 P cs sn 3 1 (by omega) rfl _ (by decide) x
    · change ∀ x, stack (k0_pay37 low (keyCol cs sn (cols P (4096 + 128 * 1) (by decide)))) x = _
      exact fun x => keyHigh_at 0 k0_pay37 high0 P cs sn 2 1 (by omega) rfl _ (by decide) x
    · change ∀ x, stack (k0_pay34 low (keyCol cs sn (cols P (4096 + 128 * 1) (by decide)))) x = _
      exact fun x => keyLow_at 0 k0_pay34 low0 P cs sn 2 1 (by omega) rfl _ (by decide) x
    · change ∀ x, stack (k0_pay42 low (keyCol cs sn (cols P (4096 + 128 * 0) (by decide)))) x = _
      exact fun x => keyHigh_at 1 k0_pay42 high1 P cs sn 1 0 (by omega) rfl _ (by decide) x
    · change ∀ x, stack (k0_pay39 low (keyCol cs sn (cols P (4096 + 128 * 0) (by decide)))) x = _
      exact fun x => keyLow_at 1 k0_pay39 low1 P cs sn 1 0 (by omega) rfl _ (by decide) x
    · change ∀ x, stack (k0_pay37 low (keyCol cs sn (cols P (4096 + 128 * 0) (by decide)))) x = _
      exact fun x => keyHigh_at 0 k0_pay37 high0 P cs sn 0 0 (by omega) rfl _ (by decide) x
    · change ∀ x, stack (k0_pay34 low (keyCol cs sn (cols P (4096 + 128 * 0) (by decide)))) x = _
      exact fun x => keyLow_at 0 k0_pay34 low0 P cs sn 0 0 (by omega) rfl _ (by decide) x
  · exact View.cover_of_tiledL (s := S8x128x128) _ S1x128x128.size (by sl_kernel_rfl) (ix3 e x l)

set_option maxHeartbeats 8000000 in
theorem vals_A (c : Dev nD) (t : Fin cfg0.N) (h : t.val % 32 = 0) (e : Fin 8) (x l : Fin 128) :
    (outsAt0 m c t.val t.isLt).2.2 (ix3 e x l) = lay (vT (iblk m c 1 t)) e x l := by
  rw [outsAt0_A m c t h]
  generalize iblk m c 0 t = sk
  generalize iblk m c 1 t = P
  generalize iblk m c 2 t = cs
  generalize iblk m c 3 t = sn
  generalize iblk m c 4 t = lg
  generalize iblk m c 5 t = lb
  generalize iblk m c 6 t = ws
  generalize iblk m c 7 t = bs
  frame_out
  refine canon_front (laid (vT P)) [_, _, _, _, _, _, _, _] [_] ?_ (ix3 e x l) ?_
  · intro p hp
    simp only [List.mem_cons, List.not_mem_nil, or_false] at hp
    rcases hp with rfl | rfl | rfl | rfl | rfl | rfl | rfl | rfl
    · change ∀ x, stack (k0_pay42 low (k0_pay31 (cols P (4352 + 128 * 1) (by decide)))) x = _
      exact fun x => valHigh_at 1 k0_pay42 high1 P 3 1 (by omega) rfl _ (by decide) x
    · change ∀ x, stack (k0_pay39 low (k0_pay31 (cols P (4352 + 128 * 1) (by decide)))) x = _
      exact fun x => valLow_at 1 k0_pay39 low1 P 3 1 (by omega) rfl _ (by decide) x
    · change ∀ x, stack (k0_pay37 low (k0_pay31 (cols P (4352 + 128 * 1) (by decide)))) x = _
      exact fun x => valHigh_at 0 k0_pay37 high0 P 2 1 (by omega) rfl _ (by decide) x
    · change ∀ x, stack (k0_pay34 low (k0_pay31 (cols P (4352 + 128 * 1) (by decide)))) x = _
      exact fun x => valLow_at 0 k0_pay34 low0 P 2 1 (by omega) rfl _ (by decide) x
    · change ∀ x, stack (k0_pay42 low (k0_pay31 (cols P (4352 + 128 * 0) (by decide)))) x = _
      exact fun x => valHigh_at 1 k0_pay42 high1 P 1 0 (by omega) rfl _ (by decide) x
    · change ∀ x, stack (k0_pay39 low (k0_pay31 (cols P (4352 + 128 * 0) (by decide)))) x = _
      exact fun x => valLow_at 1 k0_pay39 low1 P 1 0 (by omega) rfl _ (by decide) x
    · change ∀ x, stack (k0_pay37 low (k0_pay31 (cols P (4352 + 128 * 0) (by decide)))) x = _
      exact fun x => valHigh_at 0 k0_pay37 high0 P 0 0 (by omega) rfl _ (by decide) x
    · change ∀ x, stack (k0_pay34 low (k0_pay31 (cols P (4352 + 128 * 0) (by decide)))) x = _
      exact fun x => valLow_at 0 k0_pay34 low0 P 0 0 (by omega) rfl _ (by decide) x
  · exact View.cover_of_tiledL (s := S8x128x128) _ S1x128x128.size (by sl_kernel_rfl) (ix3 e x l)

end Cert.KernelMixIdeal.Closed

end
-- ==== Proof.Mixers.Whole.lean ====
/- The mixers' result as one function of the arguments. -/
module

public import Idealize.ShloMosaic.Lib.Pipeline.ValueKit
public import Idealize.ShloMosaic.Lib.Pointwise
public import proofs.«01_k».proof.Proof.Mixers.Spec

@[expose] public section

noncomputable section

open Idealize.ShloMosaic

namespace Cert.Mix

abbrev SP : Shape := ⟨3, ![4, 4096, 5632]⟩
abbrev SY : Shape := ⟨3, ![4, 4096, 2048]⟩
abbrev SL : Shape := ⟨2, ![1, 1024]⟩
abbrev SS : Shape := ⟨2, ![1, 16]⟩
abbrev SW : Shape := ⟨4, ![1, 8, 128, 128]⟩
abbrev SB : Shape := ⟨3, ![1, 8, 128]⟩

/-- The angle of position `R` at frequency `i`. -/
def ang (R i : Nat) : EReal :=
  FloatOps.sitofp (F := Ideal) .f32 (BitVec.ofNat 32 R) * Ideal.pow (Ideal.ofBits .f32 0x461C4000#32)
    (Ideal.div (-(Ideal.ofBits .f32 0x40000000#32 * FloatOps.sitofp (F := Ideal) .f32 (BitVec.ofNat 32 i))) (Ideal.ofBits .f32 0x42800000#32))

/-- The signed sine of place `d` of a head. -/
def sgn (R d : Nat) : EReal := if d % 64 < 32 then -Ideal.sin (ang R (d % 32)) else Ideal.sin (ang R (d % 32))

/-- A head's row at position `R`, rotated. -/
def rot (x : Fin 64 → EReal) (R : Nat) (d : Fin 64) : EReal :=
  x d * Ideal.cos (ang R (d.val % 32)) + x ⟨(d.val + 32) % 64, by omega⟩ * sgn R d.val

variable (P : Vec Ideal SP .bf16)

/-- Query head `h`, rotated. -/
def qry (b : Fin 4) (R : Fin 4096) (h : Fin 16) (d : Fin 64) : EReal :=
  rot (fun d => P (ix3 b R ⟨3072 + 64 * h.val + d.val, by omega⟩)) R.val d

/-- Key head `g`, rotated. -/
def key (b : Fin 4) (R : Fin 4096) (g : Fin 4) (d : Fin 64) : EReal :=
  rot (fun d => P (ix3 b R ⟨4096 + 64 * g.val + d.val, by omega⟩)) R.val d

/-- Value head `g`. -/
def val (b : Fin 4) (R : Fin 4096) (g : Fin 4) (d : Fin 64) : EReal := P (ix3 b R ⟨4352 + 64 * g.val + d.val, by omega⟩)

/-- Row `x` of block `n`. -/
def row (n : Fin 32) (x : Fin 128) : Fin 4096 := ⟨128 * n.val + x.val, by omega⟩

/-- A row of the block before `n`, zero if there is none. -/
def prev (f : Fin 4096 → Fin 4 → Fin 64 → EReal) (n : Fin 32) (g : Fin 4) (x : Fin 128) (d : Fin 64) : EReal :=
  if h : 0 < n.val then f (row ⟨n.val - 1, by omega⟩ x) g d else 0

/-- A query head's scores in row `r` of block `n`. -/
def scores (b : Fin 4) (n : Fin 32) (r : Fin 128) (h : Fin 16) : Fin 128 → EReal :=
  score (fun d => qry P b (row n r) h d * Ideal.ofBits .f32 0x3E000000#32) (fun x => key P b (row n x) ⟨h.val / 4, by omega⟩)
    (prev (key P b) n ⟨h.val / 4, by omega⟩) (0 < n.val) r

/-- The attention mixer's element. -/
def attn (sk : Vec Ideal SS .f32) (b : Fin 4) (n : Fin 32) (r : Fin 128) (h : Fin 16) (d : Fin 64) : EReal :=
  head (scores P b n r h) (sk (ix2 0 h)) (fun x => val P b (row n x) ⟨h.val / 4, by omega⟩ d)
      (fun x => prev (val P b) n ⟨h.val / 4, by omega⟩ x d) r
    * silu (P (ix3 b (row n r) ⟨4608 + 64 * h.val + d.val, by omega⟩))

/-- The layer norm's element. -/
def norm (lg lb : Vec Ideal SL .f32) (b : Fin 4) (R : Fin 4096) (n : Fin 1024) : EReal :=
  let v : Fin 1024 → EReal := fun k => P (ix3 b R ⟨1024 + k.val, by omega⟩)
  let c : Fin 1024 → EReal := fun k => v k - Ideal.div (∑ i, v i) (Ideal.ofBits .f32 0x44800000#32)
  c n * Ideal.rsqrt (Ideal.div (∑ k, c k * c k) (Ideal.ofBits .f32 0x44800000#32) + Ideal.ofBits .f32 0x3727C5AC#32)
    * lg (ix2 0 n) + lb (ix2 0 n)

/-- The gating mixer's element. -/
def gate (lg lb : Vec Ideal SL .f32) (ws : Vec Ideal SW .f32) (bs : Vec Ideal SB .f32) (b : Fin 4) (n : Fin 32) (r : Fin 128)
    (k : Fin 1024) : EReal :=
  P (ix3 b (row n r) ⟨k.val, by omega⟩)
    * ((∑ x : Fin 128, (ws (ix4 0 ⟨k.val / 128, by omega⟩ r x) * (if x.val ≤ r.val then 1 else 0)) * norm P lg lb b (row n x) k)
      + bs (ix3 0 ⟨k.val / 128, by omega⟩ r))
    * silu (P (ix3 b (row n r) ⟨2048 + k.val, by omega⟩))

/-- The mixers' element in row `r` of block `n`, column `k`. -/
def elem (sk : Vec Ideal SS .f32) (lg lb : Vec Ideal SL .f32) (ws : Vec Ideal SW .f32) (bs : Vec Ideal SB .f32) (b : Fin 4)
    (n : Fin 32) (r : Fin 128) (k : Fin 2048) : EReal :=
  if h : k.val < 1024 then gate P lg lb ws bs b n r ⟨k.val, h⟩
    else attn P sk b n r ⟨(k.val - 1024) / 64, by omega⟩ ⟨(k.val - 1024) % 64, by omega⟩

/-- The mixers' result. -/
def whole (sk : Vec Ideal SS .f32) (lg lb : Vec Ideal SL .f32) (ws : Vec Ideal SW .f32) (bs : Vec Ideal SB .f32) :
    Vec Ideal SY .bf16 := fun j =>
  have h : (j 1).val < 4096 := (j 1).isLt
  elem P sk lg lb ws bs (j 0) ⟨(j 1).val / 128, by omega⟩ ⟨(j 1).val % 128, by omega⟩ (j 2)

end Cert.Mix

end
-- ==== Proof.Mixers.Final.lean ====
/- The mixers' array, from the grid points' blocks. -/
module

public import proofs.«01_k».proof.Proof.Gen.KernelMixIdeal.Value
public import proofs.«01_k».proof.Proof.Mixers.OutA
public import proofs.«01_k».proof.Proof.Mixers.OutB
public import proofs.«01_k».proof.Proof.Mixers.Carried
public import proofs.«01_k».proof.Proof.Mixers.Whole

@[expose] public section

set_option maxRecDepth 16384

noncomputable section

open Idealize.ShloMosaic Idealize.ShloMosaic.TcCoe Idealize.SL.Sem
open Idealize.ShloMosaic.Pipeline (Dat)

namespace Cert.KernelMixIdeal.Closed

open Cert.Mix Cert.KernelMixIdeal Cert.KernelMixIdeal.Gen Cert.KernelMixIdeal.Value

variable (m : (ℓ : Loc nD τ sig) → Buf (Elt Ideal) ℓ)

/-- Where each window's block lies at a grid point: batch entry `t / 32`, block `t % 32`. -/
theorem idx : ∀ t : Fin cfg0.N, win0_0.index t = ![0] ∧ win0_1.index t = ![t.val / 32, t.val % 32, 0]
    ∧ win0_2.index t = ![t.val % 32, 0] ∧ win0_3.index t = ![t.val % 32, 0]
    ∧ win0_4.index t = ![0, 0] ∧ win0_5.index t = ![0, 0] ∧ win0_6.index t = ![0, 0, 0] ∧ win0_7.index t = ![0, 0]
    ∧ win0_8.index t = ![t.val / 32, t.val % 32, 0] :=
  (by decide +kernel : ∀ t : Fin grid0.N, _)

/-- A block has one before it unless it is the first of its batch entry. -/
theorem has_iff : ∀ t : Fin cfg0.N, Scalar.cmpi .sgt (BitVec.ofNat 32 (grid0.coords t 1).val) 0#32 = 1#1 ↔ 0 < t.val % 32 :=
  (by decide +kernel : ∀ t : Fin grid0.N, _)

theorem proj_at (c : Dev nD) (t : Fin cfg0.N) (ht : t.val < 128) (r : Fin 128) (k : Fin 5632) :
    iblk m c 1 t (ix3 0 r k) = m (c.tc.loc main_arg0) (ix3 ⟨t.val / 32, by omega⟩ (row ⟨t.val % 32, by omega⟩ r) k) := by
  unfold row
  blk_simp [iblk]
  entry_read
  pointwise []
  blk_ext [idx t]

theorem sinks_at (c : Dev nD) (t : Fin cfg0.N) (h : Fin 16) : iblk m c 0 t (ix1 h) = m (c.tc.loc main_arg1) (ix2 0 h) := by
  blk_simp [iblk]
  entry_read
  pointwise []
  blk_ext [idx t]

theorem lg_at (c : Dev nD) (t : Fin cfg0.N) (h : Fin 1024) : iblk m c 4 t (ix2 0 h) = m (c.tc.loc main_arg2) (ix2 0 h) := by
  blk_simp [iblk]
  entry_read
  pointwise []
  blk_ext [idx t]

theorem lb_at (c : Dev nD) (t : Fin cfg0.N) (h : Fin 1024) : iblk m c 5 t (ix2 0 h) = m (c.tc.loc main_arg3) (ix2 0 h) := by
  blk_simp [iblk]
  entry_read
  pointwise []
  blk_ext [idx t]

theorem ws_at (c : Dev nD) (t : Fin cfg0.N) (g : Fin 8) (r x : Fin 128) :
    iblk m c 6 t (ix3 g r x) = m (c.tc.loc main_arg4) (ix4 0 g r x) := by
  blk_simp [iblk]
  entry_read
  pointwise []
  blk_ext [idx t]

theorem bs_at (c : Dev nD) (t : Fin cfg0.N) (g : Fin 8) (r : Fin 128) :
    iblk m c 7 t (ix2 r g) = m (c.tc.loc main_arg5) (ix3 0 g r) := by
  blk_simp [iblk]
  entry_read
  pointwise []
  blk_ext [idx t]

theorem cos_at (c : Dev nD) (t : Fin cfg0.N) (ht : t.val < 128) (r l : Fin 128) :
    iblk m c 2 t (ix2 r l) = Ideal.cos (ang (row ⟨t.val % 32, by omega⟩ r).val (l.val % 32)) := by
  have e : ((View.whole main_v20).slice (win0_2.rect t)).emb (ix2 r l) = ix2 (row ⟨t.val % 32, by omega⟩ r) l := by
    unfold row
    blk_ext [idx t]
  blk_simp [iblk]
  entry_read
  pointwise []
  rw [e]
  rfl

theorem sin_at (c : Dev nD) (t : Fin cfg0.N) (ht : t.val < 128) (r l : Fin 128) :
    iblk m c 3 t (ix2 r l) = sgn (row ⟨t.val % 32, by omega⟩ r).val l.val := by
  have e : ((View.whole main_v25).slice (win0_3.rect t)).emb (ix2 r l) = ix2 (row ⟨t.val % 32, by omega⟩ r) l := by
    unfold row
    blk_ext [idx t]
  blk_simp [iblk]
  entry_read
  pointwise []
  rw [e]
  unfold sgn
  change _ = if l.val % 64 < 32 then -Ideal.sin (ang (row ⟨t.val % 32, by omega⟩ r).val (l.val % 32)) else Ideal.sin (ang (row ⟨t.val % 32, by omega⟩ r).val (l.val % 32))
  by_cases h : l.val % 64 < 32
  · have e2 : l.val % 64 = l.val % 32 := by omega
    refine (dif_pos h).trans (Eq.trans ?_ (if_pos h).symm)
    exact congrArg (fun i => -Ideal.sin (ang (row ⟨t.val % 32, by omega⟩ r).val i)) e2
  · have e2 : l.val % 64 - 32 = l.val % 32 := by omega
    refine (dif_neg h).trans (Eq.trans ?_ (if_neg h).symm)
    exact congrArg (fun i => Ideal.sin (ang (row ⟨t.val % 32, by omega⟩ r).val i)) e2

/-- The keys a grid point carries on. -/
theorem key_at (c : Dev nD) (t : Fin cfg0.N) (ht : t.val < 128) (g : Fin 4) (x : Fin 128) (d : Fin 64) :
    kT (iblk m c 1 t) (iblk m c 2 t) (iblk m c 3 t) g x d =
      key (m (c.tc.loc main_arg0)) ⟨t.val / 32, by omega⟩ (row ⟨t.val % 32, by omega⟩ x) g d := by
  unfold kT key rot
  rw [proj_at m c t ht, proj_at m c t ht, cos_at m c t ht, sin_at m c t ht]
  have h1 : (64 * (g.val % 2) + d.val) % 32 = d.val % 32 := by omega
  have h2 : (64 * (g.val % 2) + d.val) % 64 = d.val % 64 := by omega
  simp only [sgn, h1, h2]

theorem qry_at (c : Dev nD) (t : Fin cfg0.N) (ht : t.val < 128) (h : Fin 16) (x : Fin 128) (d : Fin 64) :
    qT (iblk m c 1 t) (iblk m c 2 t) (iblk m c 3 t) x h d =
      qry (m (c.tc.loc main_arg0)) ⟨t.val / 32, by omega⟩ (row ⟨t.val % 32, by omega⟩ x) h d * Ideal.ofBits .f32 0x3E000000#32 := by
  unfold qT qry rot
  rw [proj_at m c t ht, proj_at m c t ht, cos_at m c t ht, sin_at m c t ht]
  have h1 : (64 * (h.val % 2) + d.val) % 32 = d.val % 32 := by omega
  have h2 : (64 * (h.val % 2) + d.val) % 64 = d.val % 64 := by omega
  simp only [sgn, h1, h2]

theorem val_at (c : Dev nD) (t : Fin cfg0.N) (ht : t.val < 128) (g : Fin 4) (x : Fin 128) (d : Fin 64) :
    vT (iblk m c 1 t) g x d =
      val (m (c.tc.loc main_arg0)) ⟨t.val / 32, by omega⟩ (row ⟨t.val % 32, by omega⟩ x) g d := by
  unfold vT val
  rw [proj_at m c t ht]

theorem tile_congr (sk : Vec Ideal S16 .f32) (P : Vec Ideal S1x128x5632 .bf16) (cs sn : Vec Ideal S128x128 .f32)
    (lg lb : Vec Ideal S1x1024 .f32) (ws : Vec Ideal S8x128x128 .f32) (bs : Vec Ideal S128x8 .f32)
    (p q : Prop) [Decidable p] [Decidable q] (h : p ↔ q) (kh vh : Fin 4 → Fin 128 → Fin 64 → EReal) :
    tile sk P cs sn lg lb ws bs p kh vh = tile sk P cs sn lg lb ws bs q kh vh := by
  have e := propext h
  subst e
  congr

/-- A grid point's element, when the carried heads are the previous block's. -/
theorem tile_elem (c : Dev nD) (t : Fin cfg0.N) (ht : t.val < 128) (kh vh : Fin 4 → Fin 128 → Fin 64 → EReal)
    (hk : kh = prev (key (m (c.tc.loc main_arg0)) ⟨t.val / 32, by omega⟩) ⟨t.val % 32, by omega⟩)
    (hv : vh = prev (val (m (c.tc.loc main_arg0)) ⟨t.val / 32, by omega⟩) ⟨t.val % 32, by omega⟩)
    (r : Fin 128) (k : Fin 2048) :
    tile (iblk m c 0 t) (iblk m c 1 t) (iblk m c 2 t) (iblk m c 3 t) (iblk m c 4 t) (iblk m c 5 t)
      (iblk m c 6 t) (iblk m c 7 t) (Scalar.cmpi .sgt (BitVec.ofNat 32 (grid0.coords t 1).val) 0#32 = 1#1) kh vh (ix3 0 r k) =
    elem (m (c.tc.loc main_arg0)) (m (c.tc.loc main_arg1)) (m (c.tc.loc main_arg2)) (m (c.tc.loc main_arg3))
        (m (c.tc.loc main_arg4)) (m (c.tc.loc main_arg5)) ⟨t.val / 32, by omega⟩ ⟨t.val % 32, by omega⟩ r k := by
  rw [tile_congr _ _ _ _ _ _ _ _ _ _ (has_iff t)]
  unfold tile elem
  simp only [ix3_1, ix3_2]
  refine dite_congr rfl (fun h => ?_) fun h => ?_
  · unfold gateT gate normT Cert.Mix.norm
    simp only [proj_at m c t ht, lg_at, lb_at, ws_at, bs_at]
  · have h1 : (k.val - 1024) / 64 / 4 = (k.val - 1024) / 256 := by omega
    have h2 : 64 * ((k.val - 1024) / 64) + (k.val - 1024) % 64 = k.val - 1024 := by omega
    unfold attnT attn scores
    subst hk hv
    simp only [proj_at m c t ht, sinks_at, h1, Nat.add_assoc, h2]
    refine congrArg₂ (· * ·) ?_ rfl
    have hq : qT (iblk m c 1 t) (iblk m c 2 t) (iblk m c 3 t) r ⟨(k.val - 1024) / 64, by omega⟩ = fun d =>
        qry (m (c.tc.loc main_arg0)) ⟨t.val / 32, by omega⟩ (row ⟨t.val % 32, by omega⟩ r) ⟨(k.val - 1024) / 64, by omega⟩ d
          * Ideal.ofBits .f32 0x3E000000#32 := funext fun d => qry_at m c t ht _ _ d
    have hkk : kT (iblk m c 1 t) (iblk m c 2 t) (iblk m c 3 t) ⟨(k.val - 1024) / 256, by omega⟩ = fun x =>
        key (m (c.tc.loc main_arg0)) ⟨t.val / 32, by omega⟩ (row ⟨t.val % 32, by omega⟩ x) ⟨(k.val - 1024) / 256, by omega⟩ :=
      funext fun x => funext fun d => key_at m c t ht _ x d
    rw [hq, hkk]
    simp only [val_at m c t ht]

/-- What a grid point leaves in its block of the result. -/
theorem point (c : Dev nD) (t : Fin cfg0.N) (ht : t.val < 128) (r : Fin 128) (k : Fin 2048) :
    (outsAt0 m c t.val t.isLt).1 (ix3 0 r k) =
    elem (m (c.tc.loc main_arg0)) (m (c.tc.loc main_arg1)) (m (c.tc.loc main_arg2)) (m (c.tc.loc main_arg3))
        (m (c.tc.loc main_arg4)) (m (c.tc.loc main_arg5)) ⟨t.val / 32, by omega⟩ ⟨t.val % 32, by omega⟩ r k := by
  by_cases h : t.val % 32 = 0
  · rw [out_A m c t h]
    refine tile_elem m c t ht _ _ ?_ ?_ r k
    · funext g x d
      unfold prev
      rw [dif_neg (by simp only [h]; omega)]
    · funext g x d
      unfold prev
      rw [dif_neg (by simp only [h]; omega)]
  · have hs : t.val - 1 < cfg0.N := lt_of_le_of_lt (Nat.sub_le _ _) t.isLt
    have hs' : (⟨t.val - 1, hs⟩ : Fin cfg0.N).val < 128 := by simp only []; omega
    have ek : ∀ e x l, (outsAt0 m c (t.val - 1) hs).2.1 (ix3 e x l) =
        lay (kT (iblk m c 1 ⟨t.val - 1, hs⟩) (iblk m c 2 ⟨t.val - 1, hs⟩) (iblk m c 3 ⟨t.val - 1, hs⟩)) e x l := by
      intro e x l
      by_cases h' : (t.val - 1) % 32 = 0
      · exact keys_A m c ⟨t.val - 1, hs⟩ h' e x l
      · exact keys_B m c ⟨t.val - 1, hs⟩ h' e x l
    have ev : ∀ e x l, (outsAt0 m c (t.val - 1) hs).2.2 (ix3 e x l) =
        lay (vT (iblk m c 1 ⟨t.val - 1, hs⟩)) e x l := by
      intro e x l
      by_cases h' : (t.val - 1) % 32 = 0
      · exact vals_A m c ⟨t.val - 1, hs⟩ h' e x l
      · exact vals_B m c ⟨t.val - 1, hs⟩ h' e x l
    have hb : (t.val - 1) / 32 = t.val / 32 := by omega
    have hn : (t.val - 1) % 32 = t.val % 32 - 1 := by omega
    rw [out_B m c t h _ _ ek ev]
    refine tile_elem m c t ht _ _ ?_ ?_ r k
    · funext g x d
      unfold prev
      rw [dif_pos (by simp only []; omega), key_at m c _ hs']
      simp only [hb, hn]
    · funext g x d
      unfold prev
      rw [dif_pos (by simp only []; omega), val_at m c _ hs']
      simp only [hb, hn]

/-- The call's result array after the run. -/
theorem final (c : Dev nD) : (dats m 0 c).arrAt 8 cfg0.N =
    whole (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 8 _ (by decide +kernel) fun t hf j => ?_
  blk_simp
  rw [after0_8]
  have ht : t.val < 128 := t.isLt
  have hj : (win0_8.blk t).view.emb j = ix3 ⟨t.val / 32, by omega⟩ (row ⟨t.val % 32, by omega⟩ (j 1)) (j 2) := by
    unfold row
    blk_ext [idx t]
  have hx : j = ix3 0 (j 1) (j 2) := by blk_ext []
  refine (congrArg _ hx).trans ((point m c t ht (j 1) (j 2)).trans ?_)
  rw [hj]
  unfold whole row
  simp only [ix3_0, ix3_1, ix3_2]
  have hr : (j 1).val < 128 := (j 1).isLt
  congr 1 <;> exact Fin.ext (by simp only []; omega)

end Cert.KernelMixIdeal.Closed

end
-- ==== Proof.Mixers.Ref1.lean ====
/- The problem's lines of the mixers, stage by stage: the rotated heads and the scores. -/
module

public import proofs.«01_k».proof.Proof.Gen.ReferenceMixIdeal.Run
public import proofs.«01_k».proof.Proof.Mixers.Whole

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

variable (V0 : Valuation τ sig (Elt Ideal))

/-- The combined projection. -/
abbrev pr : Vec Ideal SP .bf16 := V0 (Proc.devRef .tc main_arg0)

theorem v16_at (R : Fin 4096) (i : Fin 32) : res_main_v16 V0 (ix2 R i) = ang R.val i.val := by
  pointwise [res_main_v16, ang]

theorem v0_at (b : Fin 4) (R : Fin 4096) (k : Fin 5632) : res_main_v0 V0 (ix3 b R k) = pr V0 (ix3 b R k) := by
  pointwise [res_main_v0]

theorem v82_at (b : Fin 4) (R : Fin 4096) (g : Fin 4) (d : Fin 64) :
    res_main_v82 V0 (ix4 b R g d) = pr V0 (ix3 b R ⟨4096 + 64 * g.val + d.val, by omega⟩) := by
  have h : ∀ k, res_main_v0 V0 (ix3 b R k) = pr V0 (ix3 b R k) := v0_at V0 b R
  unfold res_main_v82
  generalize res_main_v0 V0 = x at h ⊢
  rw [← h]
  pointwise []
  blk_ext []

theorem v66_at (b : Fin 4) (R : Fin 4096) (g : Fin 16) (d : Fin 64) :
    res_main_v66 V0 (ix4 b R g d) = pr V0 (ix3 b R ⟨3072 + 64 * g.val + d.val, by omega⟩) := by
  have h : ∀ k, res_main_v0 V0 (ix3 b R k) = pr V0 (ix3 b R k) := v0_at V0 b R
  unfold res_main_v66
  generalize res_main_v0 V0 = x at h ⊢
  rw [← h]
  pointwise []
  blk_ext []

theorem row_eq (n : Fin 32) (x : Fin 128) (h : n.val * 128 + x.val < 4096) : (⟨n.val * 128 + x.val, h⟩ : Fin 4096) = row n x := by
  unfold row
  exact Fin.ext (by simp only []; omega)

/-- The rotation by halves. -/
theorem rot_eq (x : Fin 64 → EReal) (R : Nat) (d : Fin 64) : rot x R d =
    if h : d.val < 32 then x d * Ideal.cos (ang R d.val) - x ⟨32 + d.val, by omega⟩ * Ideal.sin (ang R d.val)
      else x d * Ideal.cos (ang R (d.val - 32)) + x ⟨d.val - 32, by omega⟩ * Ideal.sin (ang R (d.val - 32)) := by
  unfold rot sgn
  by_cases h : d.val < 32
  · have h1 : d.val % 64 < 32 := by omega
    have h2 : d.val % 32 = d.val := by omega
    have h3 : (d.val + 32) % 64 = 32 + d.val := by omega
    rw [dif_pos h]
    simp only [h1, h2, h3, if_true, mul_neg, sub_eq_add_neg]
  · have h1 : ¬ d.val % 64 < 32 := by omega
    have h2 : d.val % 32 = d.val - 32 := by omega
    have h3 : (d.val + 32) % 64 = d.val - 32 := by omega
    rw [dif_neg h]
    simp only [h1, h2, h3, if_false]

theorem v101_at (b : Fin 4) (n : Fin 32) (x : Fin 128) (g : Fin 4) (d : Fin 64) :
    res_main_v101 V0 (ix5 b n x g d) = key (pr V0) b (row n x) g d := by
  have h : (fun d : Fin 64 => pr V0 (ix3 b (row n x) ⟨4096 + 64 * g.val + d.val, by omega⟩)) =
      fun d => res_main_v82 V0 (ix4 b (row n x) g d) := funext fun d => (v82_at V0 b (row n x) g d).symm
  have h' := fun i => v16_at V0 (row n x) i
  unfold key
  rw [h, rot_eq]
  unfold res_main_v101 res_main_v83 res_main_v84 res_main_v85 res_main_v86 res_main_v17 res_main_v18
  generalize res_main_v82 V0 = y
  generalize res_main_v16 V0 = z at h'
  pointwise []
  simp only [row_eq, h']
  refine dite_congr rfl (fun h => rfl) fun h => ?_
  have e : 32 + (d.val - 32) = d.val := by omega
  simp only [e]

theorem v102_at (b : Fin 4) (n : Fin 32) (x : Fin 128) (g : Fin 4) (d : Fin 64) :
    res_main_v102 V0 (ix5 b n x g d) = val (pr V0) b (row n x) g d := by
  have h : ∀ k, res_main_v0 V0 (ix3 b (row n x) k) = pr V0 (ix3 b (row n x) k) := v0_at V0 b (row n x)
  unfold res_main_v102
  unfold val
  generalize res_main_v0 V0 = x at h ⊢
  rw [← h]
  unfold row
  pointwise []
  blk_ext []

end Cert.ReferenceMixIdeal.Closed

end
-- ==== Proof.Mixers.Soft.lean ====
/- The softmax over both blocks with a mask is the softmax over the pairs. -/
module

public import proofs.«01_k».proof.Proof.Mixers.Spec

@[expose] public section

noncomputable section

open Idealize.ShloMosaic

namespace Cert.Mix

/-- A key of the block before. -/
def lo (x : Fin 128) : Fin 256 := ⟨x.val, by omega⟩

/-- A key of the own block. -/
def hi (x : Fin 128) : Fin 256 := ⟨128 + x.val, by omega⟩

theorem sum_halves (f : Fin 256 → EReal) : ∑ j, f j = ∑ x : Fin 128, f (lo x) + ∑ x : Fin 128, f (hi x) :=
  Fin.sum_univ_two_halves 128 128 rfl f

theorem half (j : Fin 256) : (∃ x, j = lo x) ∨ ∃ x, j = hi x := by
  by_cases h : j.val < 128
  · exact Or.inl ⟨⟨j.val, h⟩, rfl⟩
  · exact Or.inr ⟨⟨j.val - 128, by omega⟩, Fin.ext (by show j.val = 128 + (j.val - 128); omega)⟩

/-- The masked scores of both blocks: of each pair of keys one has the score, the other minus infinity. -/
structure Masked (S : Fin 256 → EReal) (c : Fin 128 → EReal) (r : Fin 128) : Prop where
  own : ∀ x : Fin 128, x.val ≤ r.val → S (hi x) = c x ∧ S (lo x) = ⊥
  before : ∀ x : Fin 128, ¬ x.val ≤ r.val → S (lo x) = c x ∧ S (hi x) = ⊥

variable {S : Fin 256 → EReal} {c : Fin 128 → EReal} {r : Fin 128}

theorem Masked.fold (h : Masked S c r) : Finset.fold max ⊥ S Finset.univ = Finset.fold max ⊥ c Finset.univ := by
  apply le_antisymm
  · refine (Finset.fold_max_le _).2 ⟨bot_le, fun j _ => ?_⟩
    have hc : ∀ x, c x ≤ Finset.fold max ⊥ c Finset.univ := fun x => (Finset.le_fold_max _).2 (Or.inr ⟨x, Finset.mem_univ x, le_rfl⟩)
    rcases half j with ⟨x, rfl⟩ | ⟨x, rfl⟩ <;> by_cases hx : x.val ≤ r.val
    · rw [(h.own x hx).2]; exact bot_le
    · rw [(h.before x hx).1]; exact hc x
    · rw [(h.own x hx).1]; exact hc x
    · rw [(h.before x hx).2]; exact bot_le
  · refine (Finset.fold_max_le _).2 ⟨bot_le, fun x _ => ?_⟩
    have hS : ∀ j, S j ≤ Finset.fold max ⊥ S Finset.univ := fun j => (Finset.le_fold_max _).2 (Or.inr ⟨j, Finset.mem_univ j, le_rfl⟩)
    by_cases hx : x.val ≤ r.val
    · rw [← (h.own x hx).1]; exact hS _
    · rw [← (h.before x hx).1]; exact hS _

theorem exp_bot_sub (t : EReal) : Ideal.exp (⊥ - t) = 0 := by
  rw [sub_eq_add_neg, EReal.bot_add]
  rfl

theorem Masked.sum (h : Masked S c r) (t : EReal) : ∑ j, Ideal.exp (S j - t) = ∑ x, Ideal.exp (c x - t) := by
  rw [sum_halves, ← Finset.sum_add_distrib]
  refine Finset.sum_congr rfl fun x _ => ?_
  by_cases hx : x.val ≤ r.val
  · rw [(h.own x hx).1, (h.own x hx).2, exp_bot_sub, zero_add]
  · rw [(h.before x hx).1, (h.before x hx).2, exp_bot_sub, add_zero]

theorem div_one {y : EReal} (p : EReal) (h : y ≠ 0) : Ideal.div p y = p * Ideal.div 1 y := by
  unfold Ideal.div
  rw [if_neg h, if_neg h, one_mul]

theorem Masked.out (h : Masked S c r) (V : Fin 256 → EReal) {s : EReal} (hd : den c s ≠ 0) :
    ∑ j, V j * Ideal.div (Ideal.exp (S j - top c s)) (den c s) = head c s (fun x => V (hi x)) (fun x => V (lo x)) r := by
  unfold head weight
  rw [sum_halves, ← Finset.sum_add_distrib]
  refine Finset.sum_congr rfl fun x _ => ?_
  rw [div_one (Ideal.exp (S (lo x) - top c s)) hd, div_one (Ideal.exp (S (hi x) - top c s)) hd]
  by_cases hx : x.val ≤ r.val
  · rw [(h.own x hx).1, (h.own x hx).2, exp_bot_sub, zero_mul, mul_zero, zero_add, if_pos hx, mul_comm]
  · rw [(h.before x hx).1, (h.before x hx).2, exp_bot_sub, zero_mul, mul_zero, add_zero, if_neg hx, mul_comm]

/-- A real number. -/
def IsReal (x : EReal) : Prop := ∃ a : ℝ, x = (a : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.neg {x : EReal} : IsReal x → IsReal (-x)
  | ⟨a, ha⟩ => ⟨-a, by rw [ha, EReal.coe_neg]⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_top {x : EReal} : IsReal x → x ≠ ⊤
  | ⟨a, ha⟩ => by rw [ha]; exact EReal.coe_ne_top a

theorem exp_nonneg (x : EReal) : 0 ≤ Ideal.exp x := by
  induction x using EReal.rec with
  | bot => exact le_rfl
  | top => exact le_top
  | coe a => exact EReal.coe_nonneg.2 (Real.exp_pos a).le

/-- The denominator is not zero where neither the sink nor a score is plus infinity, and one score is real. -/
theorem den_ne {c : Fin 128 → EReal} {s : EReal} (hs : s ≠ ⊤) (hc : ∀ x, c x ≠ ⊤) (r : Fin 128) (hr : IsReal (c r)) : den c s ≠ 0 := by
  obtain ⟨a, ha⟩ := hr
  have ht : top c s ≠ ⊤ := by
    refine ne_of_lt (max_lt ?_ (lt_of_le_of_ne le_top hs))
    exact (Finset.fold_max_lt _).2 ⟨bot_lt_top, fun x _ => lt_of_le_of_ne le_top (hc x)⟩
  have hb : top c s ≠ ⊥ := by
    refine ne_of_gt (lt_of_lt_of_le (EReal.bot_lt_coe a) (le_trans ?_ (le_max_left _ _)))
    exact (Finset.le_fold_max _).2 (Or.inr ⟨r, Finset.mem_univ r, ha.ge⟩)
  have hp : 0 < Ideal.exp (c r - top c s) := by
    rw [ha]
    induction h : top c s using EReal.rec with
    | bot => exact absurd h hb
    | top => exact absurd h ht
    | coe b =>
      rw [← EReal.coe_sub]
      exact EReal.coe_pos.2 (Real.exp_pos _)
  have hsum : Ideal.exp (c r - top c s) ≤ ∑ x : Fin 128, Ideal.exp (c x - top c s) :=
    Finset.single_le_sum (f := fun x => Ideal.exp (c x - top c s)) (fun x _ => exp_nonneg _) (Finset.mem_univ r)
  unfold den
  exact ne_of_gt (lt_of_lt_of_le hp (hsum.trans (le_add_of_nonneg_right (exp_nonneg _))))

/-- The scale moves into the sum. -/
theorem sum_scale {ι : Type} (s : Finset ι) (f : ι → EReal) (a : ℝ) (ha : 0 ≤ a) : (∑ i ∈ s, f i) * (a : EReal) = ∑ i ∈ s, f i * a := by
  classical
  induction s using Finset.induction_on with
  | empty => simp
  | insert i s hi ih =>
    rw [Finset.sum_insert hi, Finset.sum_insert hi, ← ih]
    exact EReal.right_distrib_of_nonneg_of_ne_top (EReal.coe_nonneg.2 ha) (EReal.coe_ne_top a) _ _

end Cert.Mix

end
-- ==== Proof.Mixers.Real.lean ====
/- The scores of a real projection are real numbers or minus infinity. -/
module

public import proofs.«01_k».proof.Proof.Mixers.Whole
public import proofs.«01_k».proof.Proof.Mixers.Soft

@[expose] public section

noncomputable section

open Idealize.ShloMosaic

namespace Cert.Mix

theorem eighth : ∃ a : ℝ, 0 ≤ a ∧ Ideal.ofBits .f32 0x3E000000#32 = (a : EReal) := by
  refine ⟨1 / 8, by norm_num, ?_⟩
  simp [Ideal.ofBits, Ideal.ieee, -EReal.coe_mul]; norm_num

theorem IsReal.eighth : IsReal (Ideal.ofBits .f32 0x3E000000#32) := Cert.Mix.eighth.imp fun _ h => h.2

theorem IsReal.theta : IsReal (Ideal.ofBits .f32 0x461C4000#32) := by
  refine ⟨10000, ?_⟩
  simp [Ideal.ofBits, Ideal.ieee, -EReal.coe_mul]; norm_num

theorem IsReal.two : IsReal (Ideal.ofBits .f32 0x40000000#32) := by
  refine ⟨2, ?_⟩
  simp [Ideal.ofBits, Ideal.ieee, -EReal.coe_mul]; norm_num

theorem width : Ideal.ofBits .f32 0x42800000#32 = ((64 : ℝ) : EReal) := by
  simp [Ideal.ofBits, Ideal.ieee, -EReal.coe_mul]; norm_num

theorem IsReal.sitofp (b : BitVec 32) : IsReal (FloatOps.sitofp (F := Ideal) .f32 b) := ⟨_, rfl⟩

theorem IsReal.pow {x y : EReal} : IsReal x → IsReal y → IsReal (Ideal.pow x y)
  | ⟨a, ha⟩, ⟨b, hb⟩ => ⟨Real.rpow a b, by rw [ha, hb]; rfl⟩

theorem IsReal.cos {x : EReal} : IsReal x → IsReal (Ideal.cos x)
  | ⟨a, ha⟩ => ⟨Real.cos a, by rw [ha]; rfl⟩

theorem IsReal.sin {x : EReal} : IsReal x → IsReal (Ideal.sin x)
  | ⟨a, ha⟩ => ⟨Real.sin a, by rw [ha]; rfl⟩

theorem IsReal.div_width {x : EReal} (h : IsReal x) : IsReal (Ideal.div x (Ideal.ofBits .f32 0x42800000#32)) := by
  have h0 : ((64 : ℝ) : EReal) ≠ 0 := by
    intro e
    exact absurd (EReal.coe_eq_zero.1 e) (by norm_num)
  rw [width]
  unfold Ideal.div
  rw [if_neg h0]
  exact h.mul ⟨(64 : ℝ)⁻¹, (EReal.coe_inv 64).symm⟩

theorem ang_real (R i : Nat) : IsReal (ang R i) := by
  unfold ang
  exact (IsReal.sitofp _).mul (IsReal.theta.pow (IsReal.two.mul (IsReal.sitofp _)).neg.div_width)

theorem sgn_real (R d : Nat) : IsReal (sgn R d) := by
  unfold sgn
  split
  · exact (ang_real _ _).sin.neg
  · exact (ang_real _ _).sin

theorem rot_real (x : Fin 64 → EReal) (h : ∀ d, IsReal (x d)) (R : Nat) (d : Fin 64) : IsReal (rot x R d) := by
  unfold rot
  exact ((h _).mul (ang_real _ _).cos).add ((h _).mul (sgn_real _ _))

variable {P : Vec Ideal SP .bf16}
  (hP : ∀ (b : Fin 4) (R : Fin 4096) (j : Fin 5632), 3072 ≤ j.val → j.val < 4352 → IsReal (P (ix3 b R j)))
include hP

theorem qry_real (b : Fin 4) (R : Fin 4096) (h : Fin 16) (d : Fin 64) : IsReal (qry P b R h d) :=
  rot_real _ (fun _ => hP _ _ _ (by simp only []; omega) (by simp only []; omega)) _ _

theorem key_real (b : Fin 4) (R : Fin 4096) (g : Fin 4) (d : Fin 64) : IsReal (key P b R g d) :=
  rot_real _ (fun _ => hP _ _ _ (by simp only []; omega) (by simp only []; omega)) _ _

theorem prev_real (b : Fin 4) (n : Fin 32) (g : Fin 4) (x : Fin 128) (d : Fin 64) : IsReal (prev (key P b) n g x d) := by
  unfold prev
  split
  · exact key_real hP _ _ _ _
  · exact ⟨0, EReal.coe_zero.symm⟩

theorem scores_ne_top (b : Fin 4) (n : Fin 32) (r : Fin 128) (h : Fin 16) (x : Fin 128) : scores P b n r h x ≠ ⊤ := by
  unfold scores score
  split
  · exact (IsReal.sum _ _ fun d => ((qry_real hP _ _ _ _).mul IsReal.eighth).mul (key_real hP _ _ _ _)).ne_top
  · split
    · exact (IsReal.sum _ _ fun d => ((qry_real hP _ _ _ _).mul IsReal.eighth).mul (prev_real hP _ _ _ _ _)).ne_top
    · exact bot_ne_top

/-- A query's score with its own position is real. -/
theorem own_score_real (b : Fin 4) (n : Fin 32) (r : Fin 128) (h : Fin 16) : IsReal (scores P b n r h r) := by
  unfold scores score
  rw [if_pos le_rfl]
  exact IsReal.sum _ _ fun d => ((qry_real hP _ _ _ _).mul IsReal.eighth).mul (key_real hP _ _ _ _)

/-- The denominator of every row is not zero. -/
theorem den_scores (sk : Vec Ideal SS .f32) (hs : ∀ j, sk j ≠ (⊤ : EReal)) (b : Fin 4) (n : Fin 32) (r : Fin 128) (h : Fin 16) :
    den (scores P b n r h) (sk (ix2 0 h)) ≠ 0 :=
  den_ne (hs _) (scores_ne_top hP b n r h) r (own_score_real hP b n r h)

end Cert.Mix

end
-- ==== Proof.Mixers.Ref2.lean ====
/- The problem's lines of the mixers: the masked scores of both blocks. -/
module

public import proofs.«01_k».proof.Proof.Mixers.Ref1
public import proofs.«01_k».proof.Proof.Mixers.Real

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

variable (V0 : Valuation τ sig (Elt Ideal))

/-- How far row `r` is ahead of key `j` of the two blocks. -/
theorem v135_at (n : Fin 32) (r : Fin 128) (j : Fin 256) :
    (res_main_v135 V0 (ix3 n r j)).toInt = 128 + (r.val : Int) - j.val := by
  have e : (res_main_v135 V0 (ix3 n r j)).toNat = (128 + r.val + 2 ^ 32 - j.val) % 2 ^ 32 := by
    unfold res_main_v135 res_main_v130 res_main_v114
    pointwise []
    simp only [IntOp.subi, IntOp.addi, IntOp.muli, BitVec.toNat_sub, BitVec.toNat_add, BitVec.toNat_mul, BitVec.toNat_ofNat]
    omega
  rw [BitVec.toInt_eq_toNat_cond, e]
  split <;> omega

/-- The position of key `j` of the two blocks. -/
theorem v130_at (n : Fin 32) (j : Fin 256) :
    (res_main_v130 V0 (ix2 n j)).toInt = ((n.val : Int) - 1) * 128 + j.val := by
  have e : (res_main_v130 V0 (ix2 n j)).toNat = (n.val * 128 + j.val + 2 ^ 32 - 128) % 2 ^ 32 := by
    unfold res_main_v130 res_main_v114
    pointwise []
    simp only [IntOp.subi, IntOp.addi, IntOp.muli, BitVec.toNat_sub, BitVec.toNat_add, BitVec.toNat_mul, BitVec.toNat_ofNat]
    omega
  rw [BitVec.toInt_eq_toNat_cond, e]
  split <;> omega

theorem ofBool_and (p q s : Bool) : IntOp.andi (IntOp.andi (BitVec.ofBool p) (BitVec.ofBool q)) (BitVec.ofBool s) = 1#1 ↔
    p = true ∧ q = true ∧ s = true := by
  revert p q s
  decide

/-- The mask. -/
theorem mask_iff (n : Fin 32) (r : Fin 128) (j : Fin 256) :
    IntOp.andi (IntOp.andi (IntOp.cmpi .sge (res_main_v135 V0 (ix3 n r j)) 0#32) (IntOp.cmpi .slt (res_main_v135 V0 (ix3 n r j)) 128#32))
      (IntOp.cmpi .sge (res_main_v130 V0 (ix2 n j)) 0#32) = 1#1 ↔ (j.val ≤ 128 + r.val ∧ r.val < j.val ∧ (128 ≤ j.val ∨ 0 < n.val)) := by
  have h0 : (0#32 : BitVec 32).toInt = 0 := by decide
  have h1 : (128#32 : BitVec 32).toInt = 128 := by decide
  rw [WordCmp.cmpi_sge_eq, WordCmp.cmpi_sge_eq, WordCmp.cmpi_slt_eq, ofBool_and, v135_at, v130_at, h0, h1]
  simp only [decide_eq_true_eq]
  omega

/-- A key head's element over both blocks. -/
def both (f : Fin 4096 → Fin 4 → Fin 64 → EReal) (n : Fin 32) (g : Fin 4) (j : Fin 256) (d : Fin 64) : EReal :=
  if h : j.val < 128 then prev f n g ⟨j.val, h⟩ d else f (row n ⟨j.val - 128, by omega⟩) g d

theorem v147_gen (b : Fin 4) (n : Fin 32) (g i : Fin 4) (r : Fin 128) (j : Fin 256) :
    res_main_v147 V0 (ix6 b n g i r j) =
      if j.val ≤ 128 + r.val ∧ r.val < j.val ∧ (128 ≤ j.val ∨ 0 < n.val) then
        (∑ d : Fin 64, both (key (pr V0) b) n g j d * qry (pr V0) b (row n r) ⟨g.val * 4 + i.val, by omega⟩ d)
          * Ideal.ofBits .f32 0x3E000000#32
      else ⊥ := by
  have hm := mask_iff V0 n r j
  have hk : ∀ (n : Fin 32) (x : Fin 128) (d : Fin 64), res_main_v101 V0 (ix5 b n x g d) = key (pr V0) b (row n x) g d :=
    fun n x d => v101_at V0 b n x g d
  have hy := fun h d => v66_at V0 b (row n r) h d
  have hz := fun i => v16_at V0 (row n r) i
  rw [Fin.sum_univ_two_halves 32 32 rfl]
  unfold qry
  simp only [rot_eq]
  unfold res_main_v147 res_main_v67 res_main_v68 res_main_v69 res_main_v70 res_main_v17 res_main_v18
  generalize res_main_v101 V0 = k at hk ⊢
  generalize res_main_v66 V0 = y at hy ⊢
  generalize res_main_v16 V0 = z at hz ⊢
  generalize res_main_v135 V0 = v135 at hm
  generalize res_main_v130 V0 = v130 at hm
  have hb : ∀ d : Fin 64, both (key (pr V0) b) n g j d =
      if h : j.val < 128 then (if hn : 0 < n.val then k (ix5 b ⟨n.val - 1, by omega⟩ ⟨j.val, h⟩ g d) else (0 : EReal)) else k (ix5 b n ⟨j.val - 128, by omega⟩ g d) := by
    intro d
    simp only [hk]
    rfl
  simp only [hb]
  pointwise []
  rw [select_eq]
  refine (if_congr hm ?_ ?_)
  · simp only [row_eq, hy, hz]
    refine congrArg (· * Ideal.ofBits .f32 0x3E000000#32) (congrArg₂ (· + ·) ?_ ?_) <;>
      refine Finset.sum_congr rfl fun x _ => congrArg₂ (· * ·) ?_ ?_
    · exact dite_congr rfl (fun h => dite_congr (propext ⟨fun H => by have := (H 1).1; exact this,
        fun H a => by fin_cases a <;> simp <;> omega⟩) (fun _ => rfl) fun _ => by simp [FloatOps.sitofp]) fun _ => rfl
    · rfl
    · exact dite_congr rfl (fun h => dite_congr (propext ⟨fun H => by have := (H 1).1; exact this,
        fun H a => by fin_cases a <;> simp <;> omega⟩) (fun _ => rfl) fun _ => by simp [FloatOps.sitofp]) fun _ => rfl
    · rfl
  · show Ideal.ofBits .f32 0xFF800000#32 = ⊥
    simp [Ideal.ofBits, Ideal.ieee]

end Cert.ReferenceMixIdeal.Closed

end
-- ==== Proof.Mixers.Ref3.lean ====
/- The problem's lines of the mixers: the softmax's largest score, its denominator and its weights. -/
module

public import proofs.«01_k».proof.Proof.Mixers.Ref2

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

variable (V0 : Valuation τ sig (Elt Ideal))

/-- The sinks. -/
abbrev sk : Vec Ideal SS .f32 := V0 (Proc.devRef .tc main_arg1)

theorem both_hi (f : Fin 4096 → Fin 4 → Fin 64 → EReal) (n : Fin 32) (g : Fin 4) (x : Fin 128) (d : Fin 64) :
    both f n g (hi x) d = f (row n x) g d := by
  have h : ¬ (hi x).val < 128 := by show ¬ 128 + x.val < 128; omega
  have e : (⟨(hi x).val - 128, by have := (hi x).isLt; omega⟩ : Fin 128) = x := Fin.ext (by show 128 + x.val - 128 = x.val; omega)
  unfold both
  rw [dif_neg h, e]

theorem both_lo (f : Fin 4096 → Fin 4 → Fin 64 → EReal) (n : Fin 32) (g : Fin 4) (x : Fin 128) (d : Fin 64) :
    both f n g (lo x) d = prev f n g x d := dif_pos x.isLt

/-- The scale on the queries. -/
theorem scaled (k q : Fin 64 → EReal) : (∑ d, k d * q d) * Ideal.ofBits .f32 0x3E000000#32 =
    ∑ d, (q d * Ideal.ofBits .f32 0x3E000000#32) * k d := by
  obtain ⟨a, ha, e⟩ := eighth
  rw [e, sum_scale _ _ _ ha]
  exact Finset.sum_congr rfl fun d _ => by rw [mul_assoc, mul_comm]

theorem masked (b : Fin 4) (n : Fin 32) (g i : Fin 4) (r : Fin 128) :
    Masked (fun j => res_main_v147 V0 (ix6 b n g i r j)) (scores (pr V0) b n r ⟨g.val * 4 + i.val, by omega⟩) r := by
  have hg : (⟨(g.val * 4 + i.val) / 4, by omega⟩ : Fin 4) = g := Fin.ext (by show (g.val * 4 + i.val) / 4 = g.val; omega)
  constructor
  · intro x hx
    constructor
    · show res_main_v147 V0 (ix6 b n g i r (hi x)) = _
      rw [v147_gen, if_pos (by show 128 + x.val ≤ 128 + r.val ∧ r.val < 128 + x.val ∧ (128 ≤ 128 + x.val ∨ 0 < n.val); omega), scaled]
      unfold scores score
      rw [if_pos hx]
      simp only [both_hi, hg]
    · show res_main_v147 V0 (ix6 b n g i r (lo x)) = _
      rw [v147_gen, if_neg (by show ¬ (x.val ≤ 128 + r.val ∧ r.val < x.val ∧ (128 ≤ x.val ∨ 0 < n.val)); omega)]
  · intro x hx
    constructor
    · show res_main_v147 V0 (ix6 b n g i r (lo x)) = _
      unfold scores score
      rw [if_neg hx]
      by_cases hn : 0 < n.val
      · rw [v147_gen, if_pos (by show x.val ≤ 128 + r.val ∧ r.val < x.val ∧ (128 ≤ x.val ∨ 0 < n.val); omega), scaled, if_pos hn]
        simp only [both_lo, hg]
      · rw [v147_gen, if_neg (by show ¬ (x.val ≤ 128 + r.val ∧ r.val < x.val ∧ (128 ≤ x.val ∨ 0 < n.val)); omega), if_neg hn]
    · show res_main_v147 V0 (ix6 b n g i r (hi x)) = _
      rw [v147_gen, if_neg (by show ¬ (128 + x.val ≤ 128 + r.val ∧ r.val < 128 + x.val ∧ (128 ≤ 128 + x.val ∨ 0 < n.val)); omega)]

theorem v149_at (g i : Fin 4) : res_main_v149 V0 (ix6 0 0 g i 0 0) = sk V0 (ix2 0 ⟨g.val * 4 + i.val, by omega⟩) := by
  show _ = V0 (Proc.devRef .tc main_arg1) _
  unfold res_main_v149
  generalize V0 (Proc.devRef .tc main_arg1) = s
  pointwise []

end Cert.ReferenceMixIdeal.Closed

end
-- ==== Proof.Mixers.Largest.lean ====
/- The problem's lines of the mixers: the reduction over the keys. -/
module

public import proofs.«01_k».proof.Proof.Mixers.Ref1

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

theorem reduces : S4x32x4x4x128x256.Reduces [5] S4x32x4x4x128 := by decide

theorem lift_at (b : Fin 4) (n : Fin 32) (g i : Fin 4) (r : Fin 128) (k : Fin (S4x32x4x4x128x256.size 5)) :
    reduces.lift (ix5 b n g i r) k = ix6 b n g i r ⟨k.val, k.isLt⟩ := by
  funext c; apply Fin.ext
  fin_cases c <;> rfl

theorem largest (x : FVec Ideal S4x32x4x4x128x256 .f32) (h' : S4x32x4x4x128x256.ReducesTo [5] S4x32x4x4x128)
    (hu : 0 < S_.numel) (b : Fin 4) (n : Fin 32) (g i : Fin 4) (r : Fin 128) :
    Host.reduce FloatOps.maximumf x (constant S_ .f32 0xFF800000#32) h' hu (ix5 b n g i r) =
      Finset.fold max (⊥ : EReal) (fun j : Fin 256 => x (ix6 b n g i r j)) Finset.univ := by
  rw [Host.reduce_eq_fold_single FloatOps.maximumf x _ h' reduces hu]
  have hb : (constant (F := Ideal) S_ .f32 0xFF800000#32) (Shape.Idx.first hu) = (⊥ : EReal) := by
    show Ideal.ofBits .f32 0xFF800000#32 = ⊥
    simp [Ideal.ofBits, Ideal.ieee]
  have hf : (x ∘ reduces.lift (ix5 b n g i r)) = fun j : Fin 256 => x (ix6 b n g i r j) := funext fun k => congrArg x (lift_at b n g i r k)
  rw [hb]
  exact congrArg (fun f => Finset.fold max (⊥ : EReal) f (Finset.univ : Finset (Fin 256))) hf

theorem total (x : FVec Ideal S4x32x4x4x128x256 .f32) (h' : S4x32x4x4x128x256.ReducesTo [5] S4x32x4x4x128)
    (hu : 0 < S_.numel) (b : Fin 4) (n : Fin 32) (g i : Fin 4) (r : Fin 128) :
    Host.reduceAdd x (constant S_ .f32 0x00000000#32) h' hu (ix5 b n g i r) = ∑ j : Fin 256, (x (ix6 b n g i r j) : EReal) := by
  have hb : (constant (F := Ideal) S_ .f32 0x00000000#32) (Shape.Idx.first hu) = (0 : EReal) := by
    show Ideal.ofBits .f32 0x00000000#32 = 0
    simp [Ideal.ofBits, Ideal.ieee]
  show Ideal.hostReduceAdd h' x _ _ = _
  rw [Ideal.hostReduceAdd_single h' reduces, hb, zero_add]
  exact Finset.sum_congr rfl fun k _ => congrArg x (lift_at b n g i r k)

end Cert.ReferenceMixIdeal.Closed

end
-- ==== Proof.Mixers.Ref4.lean ====
/- The problem's lines of the mixers: the softmax's largest score, its denominator and its weights. -/
module

public import proofs.«01_k».proof.Proof.Mixers.Ref3
public import proofs.«01_k».proof.Proof.Mixers.Largest

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

variable (V0 : Valuation τ sig (Elt Ideal))

theorem max_at (M : FVec Ideal S4x32x4x4x128 .f32) (s : FVec Ideal S1x1x4x4x1x1 .f32) (b : Fin 4) (n : Fin 32) (g i : Fin 4) (r : Fin 128) :
    maximumf (broadcastInDim S4x32x4x4x128x1 ![0, 1, 2, 3, 4] bcast_S4x32x4x4x128_S4x32x4x4x128x1_0_1_2_3_4 M)
      (broadcastInDim S4x32x4x4x128x1 ![0, 1, 2, 3, 4, 5] bcast_S1x1x4x4x1x1_S4x32x4x4x128x1_0_1_2_3_4_5 s) (ix6 b n g i r 0) =
        max (M (ix5 b n g i r)) (s (ix6 0 0 g i 0 0)) := by
  pointwise []

theorem v153_at (b : Fin 4) (n : Fin 32) (g i : Fin 4) (r : Fin 128) :
    res_main_v153 V0 (ix6 b n g i r 0) =
      top (scores (pr V0) b n r ⟨g.val * 4 + i.val, by omega⟩) (sk V0 (ix2 0 ⟨g.val * 4 + i.val, by omega⟩)) := by
  have h := largest (res_main_v147 V0) reducesTo_S4x32x4x4x128x256_S4x32x4x4x128_d5 h_S_ b n g i r
  have hs := v149_at V0 g i
  rw [(masked V0 b n g i r).fold] at h
  unfold top
  rw [← hs, ← h]
  unfold res_main_v153
  exact max_at _ _ b n g i r

theorem v156_at (b : Fin 4) (n : Fin 32) (g i : Fin 4) (r : Fin 128) (j : Fin 256) :
    res_main_v156 V0 (ix6 b n g i r j) = Ideal.exp (HSub.hSub (α := EReal) (β := EReal) (res_main_v147 V0 (ix6 b n g i r j))
      (top (scores (pr V0) b n r ⟨g.val * 4 + i.val, by omega⟩) (sk V0 (ix2 0 ⟨g.val * 4 + i.val, by omega⟩)))) := by
  rw [← v153_at]
  unfold res_main_v156
  generalize res_main_v147 V0 = x
  generalize res_main_v153 V0 = y
  pointwise []

/-- The denominator. -/
theorem den_at (b : Fin 4) (n : Fin 32) (g i : Fin 4) (r : Fin 128) :
    Finset.sum (M := EReal) Finset.univ (fun j => res_main_v156 V0 (ix6 b n g i r j))
        + Ideal.exp (HSub.hSub (α := EReal) (β := EReal) (res_main_v149 V0 (ix6 0 0 g i 0 0)) (res_main_v153 V0 (ix6 b n g i r 0))) =
      den (scores (pr V0) b n r ⟨g.val * 4 + i.val, by omega⟩) (sk V0 (ix2 0 ⟨g.val * 4 + i.val, by omega⟩)) := by
  rw [v149_at, v153_at]
  simp only [v156_at]
  unfold den
  exact congrArg (· + _) ((masked V0 b n g i r).sum _)

/-- A head's row at one place. -/
theorem out_at (b : Fin 4) (n : Fin 32) (g i : Fin 4) (r : Fin 128) (d : Fin 64)
    (h0 : den (scores (pr V0) b n r ⟨g.val * 4 + i.val, by omega⟩) (sk V0 (ix2 0 ⟨g.val * 4 + i.val, by omega⟩)) ≠ 0) :
    ∑ j : Fin 256, both (val (pr V0) b) n g j d * Ideal.div (res_main_v156 V0 (ix6 b n g i r j))
        (den (scores (pr V0) b n r ⟨g.val * 4 + i.val, by omega⟩) (sk V0 (ix2 0 ⟨g.val * 4 + i.val, by omega⟩))) =
    head (scores (pr V0) b n r ⟨g.val * 4 + i.val, by omega⟩) (sk V0 (ix2 0 ⟨g.val * 4 + i.val, by omega⟩))
      (fun x => val (pr V0) b (row n x) g d) (fun x => prev (val (pr V0) b) n g x d) r := by
  have h := (masked V0 b n g i r).out (fun j => both (val (pr V0) b) n g j d) h0
  simp only [both_lo, both_hi] at h
  simp only [v156_at]
  exact h

end Cert.ReferenceMixIdeal.Closed

end
-- ==== Proof.Mixers.Arrays.lean ====
/- The problem's lines of the mixers: the arrays of the attention, place by place. -/
module

public import proofs.«01_k».proof.Proof.Mixers.Ref1

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

theorem cat_at (x y : FVec Ideal S4x4096x1024 .f32) (b : Fin 4) (R : Fin 4096) (k : Fin 2048) :
    concatenate S4x4096x2048 2 [⟨S4x4096x1024, x⟩, ⟨S4x4096x1024, y⟩] concatenates_S4x4096x1024_S4x4096x1024_S4x4096x2048_d2 (ix3 b R k) =
      if h : k.val < 1024 then x (ix3 b R ⟨k.val, h⟩) else y (ix3 b R ⟨k.val - 1024, by omega⟩) := by
  pointwise []

/-- The heads side by side. -/
theorem heads_at (Z : FVec Ideal S4x32x128x4x4x64 .f32) (b : Fin 4) (R : Fin 4096) (k : Fin 1024) :
    shapeCast _ Z shapeCasts_S4x32x128x4x4x64_S4x4096x1024 (ix3 b R k) =
      Z (ix6 b ⟨R.val / 128, by omega⟩ ⟨R.val % 128, by omega⟩ ⟨k.val / 256, by omega⟩ ⟨k.val / 64 % 4, by omega⟩ ⟨k.val % 64, by omega⟩) := by
  pointwise []

/-- The weights against the values. -/
theorem mix_at (v : FVec Ideal S4x32x256x4x64 .f32) (p : FVec Ideal S4x32x4x4x128x256 .f32) (b : Fin 4) (n : Fin 32) (r : Fin 128)
    (g i : Fin 4) (d : Fin 64) :
    transpose S4x32x128x4x4x64 [0, 1, 5, 2, 4, 3]
      (Host.dotGeneral dot_S4x32x256x4x64_S4x32x4x4x128x256_S4x32x4x64x4x128_2_5_4_34_013_012 none v p)
      transposes_S4x32x4x64x4x128_S4x32x128x4x4x64_0_1_5_2_4_3 (ix6 b n r g i d) =
    Finset.sum (M := EReal) Finset.univ fun j : Fin 256 => v (ix5 b n j g d) * p (ix6 b n g i r j) := by
  pointwise []

/-- A block after the one before it. -/
theorem band_at (v : FVec Ideal S4x32x128x4x64 .f32) (b : Fin 4) (n : Fin 32) (j : Fin 256) (g : Fin 4) (d : Fin 64) :
    concatenate S4x32x256x4x64 2 [⟨S4x32x128x4x64, (extractStridedSlice S4x32x128x4x64 ![0, 0, 0, 0, 0]
      (pad S4x33x128x4x64 ![0, 1, 0, 0, 0] ![0, 0, 0, 0, 0] ![0, 0, 0, 0, 0] v (sitofp .f32 (constantI S_ 32 0#32))
        pads_S4x32x128x4x64_S4x33x128x4x64_000_100_000_000_000 h_S_) slices_S4x33x128x4x64_S4x32x128x4x64_0_0_0_0_0)⟩,
      ⟨S4x32x128x4x64, v⟩] concatenates_S4x32x128x4x64_S4x32x128x4x64_S4x32x256x4x64_d2 (ix5 b n j g d) =
    if h : j.val < 128 then (if hn : 0 < n.val then v (ix5 b ⟨n.val - 1, by omega⟩ ⟨j.val, h⟩ g d) else (0 : EReal))
      else v (ix5 b n ⟨j.val - 128, by omega⟩ g d) := by
  pointwise []
  exact dite_congr rfl (fun h => dite_congr (propext ⟨fun H => by omega, fun H => by omega⟩) (fun _ => rfl) fun _ => by
    simp [FloatOps.sitofp]) fun _ => rfl

/-- The weights over the denominator. -/
theorem weight_at (w : FVec Ideal S4x32x4x4x128x256 .f32) (M : FVec Ideal S4x32x4x4x128 .f32) (s : FVec Ideal S1x1x4x4x1x1 .f32)
    (t : FVec Ideal S4x32x4x4x128x1 .f32) (b : Fin 4) (n : Fin 32) (g i : Fin 4) (r : Fin 128) (j : Fin 256) :
    Host.divf w (broadcastInDim S4x32x4x4x128x256 ![0, 1, 2, 3, 4, 5] bcast_S4x32x4x4x128x1_S4x32x4x4x128x256_0_1_2_3_4_5
      (addf (broadcastInDim S4x32x4x4x128x1 ![0, 1, 2, 3, 4] bcast_S4x32x4x4x128_S4x32x4x4x128x1_0_1_2_3_4 M)
        (Host.exp (subf (broadcastInDim S4x32x4x4x128x1 ![0, 1, 2, 3, 4, 5] bcast_S1x1x4x4x1x1_S4x32x4x4x128x1_0_1_2_3_4_5 s) t))))
      (ix6 b n g i r j) =
    Ideal.div (w (ix6 b n g i r j)) (HAdd.hAdd (α := EReal) (β := EReal) (M (ix5 b n g i r))
      (Ideal.exp (HSub.hSub (α := EReal) (β := EReal) (s (ix6 0 0 g i 0 0)) (t (ix6 b n g i r 0))))) := by
  pointwise []

/-- The gate. -/
theorem silu_at (z : FVec Ideal S4x4096x1024 .f32) (b : Fin 4) (R : Fin 4096) (k : Fin 1024) :
    mulf z (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf z)))) (ix3 b R k) =
    silu (z (ix3 b R k)) := by
  unfold silu
  rw [zero_sub]
  pointwise []

theorem mulf_at {s : Shape} (x y : FVec Ideal s .f32) (j : s.Idx) : mulf x y j = HMul.hMul (α := EReal) (β := EReal) (x j) (y j) := rfl

end Cert.ReferenceMixIdeal.Closed

end
-- ==== Proof.Mixers.Groups.lean ====
/- The problem's lines of the mixers: the arrays of the gating, place by place. -/
module

public import proofs.«01_k».proof.Proof.Mixers.Ref1

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

/-- The groups side by side. -/
theorem groups_at (Z : FVec Ideal S4x32x128x8x128 .f32) (b : Fin 4) (R : Fin 4096) (k : Fin 1024) :
    shapeCast _ Z shapeCasts_S4x32x128x8x128_S4x4096x1024 (ix3 b R k) =
      Z (ix5 b ⟨R.val / 128, by omega⟩ ⟨R.val % 128, by omega⟩ ⟨k.val / 128, by omega⟩ ⟨k.val % 128, by omega⟩) := by
  pointwise []

/-- A group of a block of rows. -/
theorem group_at (Z : FVec Ideal S4x4096x1024 .f32) (b : Fin 4) (n : Fin 32) (x : Fin 128) (g : Fin 8) (c : Fin 128) :
    shapeCast _ Z shapeCasts_S4x4096x1024_S4x32x128x8x128 (ix5 b n x g c) = Z (ix3 b (row n x) ⟨128 * g.val + c.val, by omega⟩) := by
  unfold row
  pointwise []
  blk_ext []

/-- The weighted rows and the bias. -/
theorem spatial_at (u : FVec Ideal S4x32x128x8x128 .f32) (w : FVec Ideal S8x128x128 .f32) (s : FVec Ideal S1x8x128 .f32)
    (b : Fin 4) (n : Fin 32) (r : Fin 128) (g : Fin 8) (c : Fin 128) :
    addf (transpose S4x32x128x8x128 [1, 2, 4, 0, 3] (Host.dotGeneral dot_S4x32x128x8x128_S8x128x128_S8x4x32x128x128_2_2_014_1_3_0 none u w)
      transposes_S8x4x32x128x128_S4x32x128x8x128_1_2_4_0_3) (broadcastInDim S4x32x128x8x128 ![0, 1, 2, 3, 4]
        bcast_S1x1x128x8x1_S4x32x128x8x128_0_1_2_3_4 (broadcastInDim S1x1x128x8x1 ![2, 3] bcast_S128x8_S1x1x128x8x1_2_3
          (transpose S128x8 [1, 0] (shapeCast _ s shapeCasts_S1x8x128_S8x128) transposes_S8x128_S128x8_1_0))) (ix5 b n r g c) =
    HAdd.hAdd (α := EReal) (β := EReal) (∑ x : Fin 128, u (ix5 b n x g c) * w (ix3 g r x)) (s (ix3 0 g r)) := by
  pointwise []

/-- The weights on and below the diagonal. -/
theorem tril_at (w : FVec Ideal S1x8x128x128 .f32) (g : Fin 8) (r x : Fin 128) :
    mulf (shapeCast _ w shapeCasts_S1x8x128x128_S8x128x128) (broadcastInDim S8x128x128 ![0, 1, 2] bcast_S1x128x128_S8x128x128_0_1_2
      (broadcastInDim S1x128x128 ![1, 2] bcast_S128x128_S1x128x128_1_2 (select (cmpi .sge (addi (iotaInDim S128x128 32 0)
        (broadcastInDim S128x128 ![] bcast_S_S128x128 (constantI S_ 32 0#32))) (iotaInDim S128x128 32 1))
        (broadcastInDim S128x128 ![] bcast_S_S128x128 (constant S_ .f32 0x3F800000#32))
        (broadcastInDim S128x128 ![] bcast_S_S128x128 (constant S_ .f32 0x00000000#32))))) (ix3 g r x) =
    HMul.hMul (α := EReal) (β := EReal) (w (ix4 0 g r x)) (if x.val ≤ r.val then (1 : EReal) else 0) := by
  have h : IntOp.cmpi .sge (IntOp.addi (BitVec.ofNat 32 r.val) 0#32) (BitVec.ofNat 32 x.val) = 1#1 ↔ x.val ≤ r.val := by
    rw [show IntOp.addi (BitVec.ofNat 32 r.val) 0#32 = BitVec.ofNat 32 r.val from BitVec.add_zero _, WordCmp.cmpi_sge_ofNat_eq_one_iff] <;> omega
  pointwise []
  simp only [select_eq, h, mul_ite, mul_one, mul_zero]

/-- The norm. -/
theorem norm_at (c : FVec Ideal S4x4096x1024 .f32) (lg lb : FVec Ideal S1x1024 .f32) (b : Fin 4) (R : Fin 4096) (k : Fin 1024) :
    addf (mulf (mulf c (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf c c) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x3727C5AC#32)))))) (broadcastInDim S4x4096x1024 ![0, 1, 2]
      bcast_S1x1x1024_S4x4096x1024_0_1_2 (broadcastInDim S1x1x1024 ![2] bcast_S1024_S1x1x1024_2 (shapeCast _ lg shapeCasts_S1x1024_S1024))))
      (broadcastInDim S4x4096x1024 ![0, 1, 2] bcast_S1x1x1024_S4x4096x1024_0_1_2 (broadcastInDim S1x1x1024 ![2] bcast_S1024_S1x1x1024_2
        (shapeCast _ lb shapeCasts_S1x1024_S1024))) (ix3 b R k) =
    (fun (c lg lb : Fin 1024 → EReal) => c k * Ideal.rsqrt (Ideal.div (∑ i, c i * c i) (Ideal.ofBits .f32 0x44800000#32)
      + Ideal.ofBits .f32 0x3727C5AC#32) * lg k + lb k) (fun i => c (ix3 b R i)) (fun i => lg (ix2 0 i)) (fun i => lb (ix2 0 i)) := by
  pointwise []

end Cert.ReferenceMixIdeal.Closed

end
-- ==== Proof.Mixers.Ref5.lean ====
/- The problem's lines of the mixers: the two halves of the result. -/
module

public import proofs.«01_k».proof.Proof.Mixers.Ref4
public import proofs.«01_k».proof.Proof.Mixers.Arrays
public import proofs.«01_k».proof.Proof.Mixers.Groups

@[expose] public section

set_option maxRecDepth 16384

noncomputable section

open Idealize.ShloMosaic Idealize.ShloMosaic.TcCoe Idealize.SL.Sem

namespace Cert.ReferenceMixIdeal.Closed

open Cert.Mix Cert.ReferenceMixIdeal Cert.ReferenceMixIdeal.Gen Cert.ReferenceMixIdeal.Value

variable (V0 : Valuation τ sig (Elt Ideal))

theorem v25_at (b : Fin 4) (R : Fin 4096) (k : Fin 1024) :
    res_main_v25 V0 (ix3 b R k) = pr V0 (ix3 b R ⟨4608 + k.val, by omega⟩) := by
  have h : ∀ k, res_main_v0 V0 (ix3 b R k) = pr V0 (ix3 b R k) := v0_at V0 b R
  unfold res_main_v25
  generalize res_main_v0 V0 = x at h ⊢
  rw [← h]
  pointwise []

theorem v21_at (b : Fin 4) (R : Fin 4096) (k : Fin 1024) :
    res_main_v21 V0 (ix3 b R k) = pr V0 (ix3 b R ⟨2048 + k.val, by omega⟩) := by
  have h : ∀ k, res_main_v0 V0 (ix3 b R k) = pr V0 (ix3 b R k) := v0_at V0 b R
  unfold res_main_v21
  generalize res_main_v0 V0 = x at h ⊢
  rw [← h]
  pointwise []

theorem vu_at (b : Fin 4) (R : Fin 4096) (k : Fin 1024) :
    extractStridedSlice S4x4096x1024 ![0, 0, 0] (res_main_v0 V0) slices_S4x4096x5632_S4x4096x1024_0_0_0 (ix3 b R k) =
      pr V0 (ix3 b R ⟨k.val, by omega⟩) := by
  have h : ∀ k, res_main_v0 V0 (ix3 b R k) = pr V0 (ix3 b R k) := v0_at V0 b R
  generalize res_main_v0 V0 = x at h ⊢
  rw [← h]
  pointwise []

theorem v35_at (b : Fin 4) (R : Fin 4096) (k : Fin 1024) :
    res_main_v35 V0 (ix3 b R k) = HSub.hSub (α := EReal) (β := EReal) (pr V0 (ix3 b R ⟨1024 + k.val, by omega⟩))
      (Ideal.div (∑ i : Fin 1024, pr V0 (ix3 b R ⟨1024 + i.val, by omega⟩)) (Ideal.ofBits .f32 0x44800000#32)) := by
  have h : ∀ k, res_main_v0 V0 (ix3 b R k) = pr V0 (ix3 b R k) := v0_at V0 b R
  simp only [← h]
  unfold res_main_v35 res_main_v20
  generalize res_main_v0 V0 = x
  pointwise []

theorem row_self (R : Fin 4096) : row ⟨R.val / 128, by omega⟩ ⟨R.val % 128, by omega⟩ = R :=
  Fin.ext (by show 128 * (R.val / 128) + R.val % 128 = R.val; omega)

theorem attn_eq (b : Fin 4) (n : Fin 32) (r : Fin 128) (g i : Fin 4) (d : Fin 64) :
    attn (pr V0) (sk V0) b n r ⟨g.val * 4 + i.val, by omega⟩ d =
      HMul.hMul (α := EReal) (β := EReal) (head (scores (pr V0) b n r ⟨g.val * 4 + i.val, by omega⟩) (sk V0 (ix2 0 ⟨g.val * 4 + i.val, by omega⟩))
        (fun x => val (pr V0) b (row n x) g d) (fun x => prev (val (pr V0) b) n g x d) r)
        (silu (pr V0 (ix3 b (row n r) ⟨4608 + 64 * (g.val * 4 + i.val) + d.val, by omega⟩))) := by
  have hg : (⟨(g.val * 4 + i.val) / 4, by omega⟩ : Fin 4) = g := Fin.ext (by show (g.val * 4 + i.val) / 4 = g.val; omega)
  unfold attn
  simp only [hg]

theorem v172_attn (b : Fin 4) (R : Fin 4096) (k : Fin 2048) (hk : ¬ k.val < 1024)
    (h0 : ∀ n r h, den (scores (pr V0) b n r h) (sk V0 (ix2 0 h)) ≠ 0) :
    res_main_v172 V0 (ix3 b R k) =
      attn (pr V0) (sk V0) b ⟨R.val / 128, by omega⟩ ⟨R.val % 128, by omega⟩ ⟨(k.val - 1024) / 64, by omega⟩ ⟨(k.val - 1024) % 64, by omega⟩ := by
  have e : (⟨(k.val - 1024) / 64, by omega⟩ : Fin 16) = ⟨(k.val - 1024) / 256 * 4 + (k.val - 1024) / 64 % 4, by omega⟩ := Fin.ext (by
    show (k.val - 1024) / 64 = (k.val - 1024) / 256 * 4 + (k.val - 1024) / 64 % 4; omega)
  have e2 : 64 * ((k.val - 1024) / 256 * 4 + (k.val - 1024) / 64 % 4) + (k.val - 1024) % 64 = k.val - 1024 := by omega
  rw [e]
  refine Eq.trans ?_ (attn_eq V0 b ⟨R.val / 128, by omega⟩ ⟨R.val % 128, by omega⟩ ⟨(k.val - 1024) / 256, by omega⟩
    ⟨(k.val - 1024) / 64 % 4, by omega⟩ ⟨(k.val - 1024) % 64, by omega⟩).symm
  rw [← out_at V0 b _ _ _ _ _ (h0 _ _ _), row_self]
  simp only [Nat.add_assoc, e2]
  unfold res_main_v172
  refine (cat_at _ _ b R k).trans ((dif_neg hk).trans ?_)
  refine (mulf_at _ _ _).trans (congrArg₂ (· * ·) ?_ ((silu_at _ b R _).trans (congrArg silu (v25_at V0 b R _))))
  refine (heads_at _ b R _).trans ((mix_at _ _ b _ _ _ _ _).trans (Finset.sum_congr rfl fun j _ => congrArg₂ (· * ·) ?_ ?_))
  · refine (band_at _ b _ j _ _).trans ?_
    simp only [v102_at]
    rfl
  · refine (weight_at _ _ _ _ b _ _ _ _ j).trans (congrArg (Ideal.div _) ?_)
    rw [total]
    exact den_at V0 b _ _ _ _

abbrev lg : Vec Ideal SL .f32 := V0 (Proc.devRef .tc main_arg2)
abbrev lb : Vec Ideal SL .f32 := V0 (Proc.devRef .tc main_arg3)
abbrev ws : Vec Ideal SW .f32 := V0 (Proc.devRef .tc main_arg4)
abbrev bs : Vec Ideal SB .f32 := V0 (Proc.devRef .tc main_arg5)

theorem v172_gate (b : Fin 4) (R : Fin 4096) (k : Fin 2048) (hk : k.val < 1024) :
    res_main_v172 V0 (ix3 b R k) =
      gate (pr V0) (lg V0) (lb V0) (ws V0) (bs V0) b ⟨R.val / 128, by omega⟩ ⟨R.val % 128, by omega⟩ ⟨k.val, hk⟩ := by
  have e : 128 * (k.val / 128) + k.val % 128 = k.val := by omega
  unfold gate
  rw [row_self, mul_assoc, ← mul_assoc, mul_assoc]
  rw [← mul_assoc]
  unfold res_main_v172
  refine (cat_at _ _ b R k).trans ((dif_pos hk).trans ?_)
  refine (mulf_at _ _ _).trans (congrArg₂ (· * ·) ?_ ((silu_at _ b R _).trans (congrArg silu (v21_at V0 b R _))))
  refine (mulf_at _ _ _).trans (congrArg₂ (· * ·) (vu_at V0 b R _) ?_)
  refine (groups_at _ b R _).trans ((spatial_at _ _ _ b _ _ _ _).trans (congrArg (· + _) (Finset.sum_congr rfl fun x _ => ?_)))
  refine Eq.trans ?_ (mul_comm _ _)
  refine congrArg₂ (· * ·) ?_ (tril_at _ _ _ x)
  refine (group_at _ b _ x _ _).trans ((norm_at _ _ _ b _ _).trans ?_)
  simp only [v35_at, e]
  rfl

/-- The problem's array. -/
theorem ref_eq (h0 : ∀ b n r h, den (scores (pr V0) b n r h) (sk V0 (ix2 0 h)) ≠ 0) :
    truncf (F := Ideal) .bf16 (res_main_v172 V0) bitsLt_bf16_f32 = whole (pr V0) (sk V0) (lg V0) (lb V0) (ws V0) (bs V0) := by
  funext j
  obtain ⟨b, R, k, rfl⟩ : ∃ (b : Fin 4) (R : Fin 4096) (k : Fin 2048), j = ix3 b R k := ⟨j 0, j 1, j 2, by
    funext a; fin_cases a <;> rfl⟩
  show res_main_v172 V0 (ix3 b R k) = elem (pr V0) (sk V0) (lg V0) (lb V0) (ws V0) (bs V0) b ⟨R.val / 128, by omega⟩ ⟨R.val % 128, by omega⟩ k
  unfold elem
  by_cases hk : k.val < 1024
  · rw [dif_pos hk]
    exact v172_gate V0 b R k hk
  · rw [dif_neg hk]
    exact v172_attn V0 b R k hk (h0 b)

end Cert.ReferenceMixIdeal.Closed

end
-- ==== Proof.Mixers.Claim.lean ====
/- The mixers' claims. -/
module

public import proofs.«01_k».proof.Defs
public import proofs.«01_k».proof.Proof.Gen.KernelMix.Frame
public import proofs.«01_k».proof.Proof.Gen.KernelMixIdeal.Frame
public import proofs.«01_k».proof.Proof.Mixers.Final
public import proofs.«01_k».proof.Proof.Mixers.Ref5
public import Idealize.ShloMosaic.Lib.Claim
public import Idealize.ShloMosaic.Lib.Quiescent

@[expose] public section

noncomputable section

open Idealize.ShloMosaic Idealize.ShloMosaic.TcCoe Idealize.SL.Sem

namespace Cert.Proof.Mixers

open Cert.Mix

theorem pre_facts : Cert.Pre_finite_mix.Facts where
  slices_S4x4096x5632_S4x4096x1280_0_0_3072 := by decide
  bitsLt_bf16_f32 := by decide
  bcast_S_S4x4096x1280 := by decide
  bcast_S_S1x16 := by decide

theorem frame_mix : Cert.quiescent_KernelMix := fun m ρ _ => Cert.KernelMix.Gen.frame m ρ
theorem frame_mix_ideal : Cert.quiescent_KernelMixIdeal := fun m ρ _ => Cert.KernelMixIdeal.Gen.frame m ρ
theorem frame_mix_ideal_pre : Cert.quiescent_KernelMixIdeal_pre_finite_mix (hPre_finite_mix := pre_facts) :=
  fun m ρ _ => Cert.KernelMixIdeal.Gen.frame m ρ
theorem frame_mix_ref : Cert.quiescent_ReferenceMixIdeal := fun m ρ _ =>
  (θ_run Cert.ReferenceMixIdeal.defs _ _).mono (fun r h => ⟨fun c => (h c).2, sem_eq_zero_of_no_sems (by decide) r.2⟩)
    (Cert.ReferenceMixIdeal.Value.run (F := Ideal) m ρ)
theorem frame_mix_ref_pre : Cert.quiescent_ReferenceMixIdeal_pre_finite_mix (hPre_finite_mix := pre_facts) := fun m ρ _ =>
  frame_mix_ref m ρ trivial

/-- An extended real whose absolute value is below plus infinity is a real number. -/
theorem real_of (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe a => exact ⟨a, rfl⟩

/-- An extended real below plus infinity is not plus infinity. -/
theorem ne_top_of (x : EReal) (h : Ideal.cmp .olt x (Ideal.ofBits .f32 0x7F800000#32) = 1#1) : x ≠ ⊤ := by
  have ht : Ideal.ofBits .f32 0x7F800000#32 = ⊤ := by simp [Ideal.ofBits, Ideal.ieee]
  rw [ht] at h
  rintro rfl
  simp [Ideal.cmp] at h

/-- The columns of the queries and keys are the slice that the precondition speaks of. -/
theorem slice_at (x : Vec Ideal Cert.Pre_finite_mix.S4x4096x5632 .bf16)
    (h : Cert.Pre_finite_mix.S4x4096x5632.Slices ![0, 0, 3072] Cert.Pre_finite_mix.S4x4096x1280)
    (b : Fin 4) (R : Fin 4096) (j : Fin 5632) (h1 : 3072 ≤ j.val) (h2 : j.val < 4352) :
    extractStridedSlice Cert.Pre_finite_mix.S4x4096x1280 ![0, 0, 3072] x h (ix3 b R (⟨j.val - 3072, by omega⟩ : Fin 1280)) = x (ix3 b R j) := by
  refine congrArg x (funext fun i => Fin.ext ?_)
  fin_cases i
  · exact Nat.zero_add _
  · exact Nat.zero_add _
  · exact Nat.add_sub_cancel' h1

/-- The mixers' call and the problem's lines for it leave the same array. -/
theorem algebraic_mix : Cert.algebraic_KernelMixIdeal_ReferenceMixIdeal_pre_finite_mix (hPre_finite_mix := pre_facts) := by
  intro m ρ m' ρ' hpre hagree
  refine ⟨_, Cert.KernelMixIdeal.Value.run_blocks (F := Ideal) m ρ, ?_⟩
  refine (θ_run Cert.ReferenceMixIdeal.defs _ _).mono (fun _ h c => ⟨(h c).1.trans ?_, (h c).2⟩)
    (Cert.ReferenceMixIdeal.Value.run (F := Ideal) m' ρ')
  obtain ⟨h0, h1, h2, h3, h4, h5⟩ := hagree c
  have hP : ∀ (b : Fin 4) (R : Fin 4096) (j : Fin 5632), 3072 ≤ j.val → j.val < 4352 →
      IsReal (m (c.tc.loc Cert.KernelMixIdeal.main_arg0) (ix3 b R j)) := fun b R j h1 h2 =>
    (congrArg IsReal (slice_at (m (c.tc.loc Cert.KernelMixIdeal.main_arg0))
      pre_facts.slices_S4x4096x5632_S4x4096x1280_0_0_3072 b R j h1 h2)).mp (real_of _ (congrFun (hpre c).1 _))
  have hs : ∀ j, m (c.tc.loc Cert.KernelMixIdeal.main_arg1) j ≠ (⊤ : EReal) := fun j => ne_top_of _ (congrFun (hpre c).2 j)
  have hP' : ∀ (b : Fin 4) (R : Fin 4096) (j : Fin 5632), 3072 ≤ j.val → j.val < 4352 →
      IsReal (m' (c.tc.loc Cert.ReferenceMixIdeal.main_arg0) (ix3 b R j)) := fun b R j h1 h2 => by rw [h0]; exact hP b R j h1 h2
  have hs' : ∀ j, m' (c.tc.loc Cert.ReferenceMixIdeal.main_arg1) j ≠ (⊤ : EReal) := fun j => by rw [h1]; exact hs j
  rw [Cert.KernelMixIdeal.Closed.final m c, ← h0, ← h1, ← h2, ← h3, ← h4, ← h5]
  exact Cert.ReferenceMixIdeal.Closed.ref_eq _ fun b n r h => den_scores hP' _ hs' b n r h

end Cert.Proof.Mixers

end
-- ==== Proof.lean ====
/- The claims, one program after another: every program ends with its counters at zero and its arguments as launched, the
   programs read over the reals are the printed ones, and each call's result array is the array the problem's lines give. -/
module

public import proofs.«01_k».proof.Defs
public import proofs.«01_k».proof.Proof.InProj
public import proofs.«01_k».proof.Proof.OutProj
public import proofs.«01_k».proof.Proof.Modulation
public import proofs.«01_k».proof.Proof.Mixers.Claim
public import proofs.«01_k».proof.Proof.Gen.Kernel
public import proofs.«01_k».proof.Proof.Gen.KernelIdeal
public import proofs.«01_k».proof.Proof.Gen.ReferenceIdeal
public import proofs.«01_k».proof.Proof.Gen.KernelOut
public import proofs.«01_k».proof.Proof.Gen.KernelOutIdeal
public import proofs.«01_k».proof.Proof.Gen.ReferenceOutIdeal
public import proofs.«01_k».proof.Proof.Gen.KernelMod
public import proofs.«01_k».proof.Proof.Gen.KernelModIdeal
public import proofs.«01_k».proof.Proof.Gen.ReferenceModIdeal
public import proofs.«01_k».proof.Proof.Gen.KernelModF
public import proofs.«01_k».proof.Proof.Gen.KernelModFIdeal
public import proofs.«01_k».proof.Proof.Gen.ReferenceModFIdeal
public import proofs.«01_k».proof.Proof.Gen.KernelMix
public import proofs.«01_k».proof.Proof.Gen.KernelMixIdeal
public import proofs.«01_k».proof.Proof.Gen.ReferenceMixIdeal

@[expose] public section

noncomputable section

namespace Cert.Proof

open Idealize.ShloMosaic Idealize.SL.Sem Cert.Kernel

/-- Every claim the test file states. -/
theorem claim : Cert.Claim := ⟨Cert.Kernel.Gen.facts, Cert.KernelIdeal.Gen.facts, Cert.ReferenceIdeal.Gen.facts, Cert.KernelOut.Gen.facts, Cert.KernelOutIdeal.Gen.facts, Cert.ReferenceOutIdeal.Gen.facts, Cert.KernelMod.Gen.facts, Cert.KernelModIdeal.Gen.facts, Cert.ReferenceModIdeal.Gen.facts, Cert.KernelModF.Gen.facts, Cert.KernelModFIdeal.Gen.facts, Cert.ReferenceModFIdeal.Gen.facts,
  Cert.KernelMix.Gen.facts, Cert.KernelMixIdeal.Gen.facts, Cert.ReferenceMixIdeal.Gen.facts, Mixers.pre_facts,
  InProj.frame_in, InProj.frame_in_ideal, InProj.frame_in_ref,
  OutProj.frame_out, OutProj.frame_out_ideal, OutProj.frame_out_ref,
  Modulation.frame_mod, Modulation.frame_mod_ideal, Modulation.frame_mod_ref,
  Modulation.frame_mod_f, Modulation.frame_mod_f_ideal, Modulation.frame_mod_f_ref,
  Mixers.frame_mix, Mixers.frame_mix_ideal, Mixers.frame_mix_ideal_pre, Mixers.frame_mix_ref, Mixers.frame_mix_ref_pre,
  trivial, InProj.algebraic_in, trivial, OutProj.algebraic_out, trivial, Modulation.algebraic_mod,
  trivial, Modulation.algebraic_mod_f, trivial, Mixers.algebraic_mix⟩

end Cert.Proof

end
